-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 4] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = Layout.blockN ⟨2, ![512, 512]⟩ ⟨2, ![1024, 512]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S_ : Shape := ⟨0, ![]⟩
abbrev S2 : Shape := ⟨1, ![2]⟩
abbrev S512x1 : Shape := ⟨2, ![512, 1]⟩
abbrev S1x2 : Shape := ⟨2, ![1, 2]⟩
abbrev S512x2 : Shape := ⟨2, ![512, 2]⟩
abbrev S3 : Shape := ⟨1, ![3]⟩
abbrev S9 : Shape := ⟨1, ![9]⟩
abbrev S1 : Shape := ⟨1, ![1]⟩
abbrev S128x512 : Shape := ⟨2, ![128, 512]⟩
abbrev S128x2 : Shape := ⟨2, ![128, 2]⟩
abbrev S128x1 : Shape := ⟨2, ![128, 1]⟩
abbrev S1x512x1024 : Shape := ⟨3, ![1, 512, 1024]⟩
abbrev S512x1024 : Shape := ⟨2, ![512, 1024]⟩
abbrev S128x1024 : Shape := ⟨2, ![128, 1024]⟩
abbrev S1x1024x512 : Shape := ⟨3, ![1, 1024, 512]⟩
abbrev S1024x512 : Shape := ⟨2, ![1024, 512]⟩

abbrev nBuf : Space → Nat
  | .hbm => 34
  | .vmem => 11
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S2x512x1024, .f32⟩
  | .hbm, ⟨3, _⟩ => ⟨S2x1024x512, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2, .i32⟩
  | .hbm, ⟨11, _⟩ => ⟨S512x1, .i32⟩
  | .hbm, ⟨12, _⟩ => ⟨S_, .i32⟩
  | .hbm, ⟨13, _⟩ => ⟨S_, .i32⟩
  | .hbm, ⟨14, _⟩ => ⟨S2, .i32⟩
  | .hbm, ⟨15, _⟩ => ⟨S2, .i32⟩
  | .hbm, ⟨16, _⟩ => ⟨S1x2, .i32⟩
  | .hbm, ⟨17, _⟩ => ⟨S512x2, .i32⟩
  | .hbm, ⟨18, _⟩ => ⟨S512x2, .i32⟩
  | .hbm, ⟨19, _⟩ => ⟨S512x2, .i1⟩
  | .hbm, ⟨20, _⟩ => ⟨S512x2, .f32⟩
  | .hbm, ⟨21, _⟩ => ⟨S512x1, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S2, .i32⟩
  | .hbm, ⟨27, _⟩ => ⟨S2, .i32⟩
  | .hbm, ⟨28, _⟩ => ⟨S1x2, .i32⟩
  | .hbm, ⟨29, _⟩ => ⟨S512x2, .i32⟩
  | .hbm, ⟨30, _⟩ => ⟨S512x2, .i32⟩
  | .hbm, ⟨31, _⟩ => ⟨S512x2, .i1⟩
  | .hbm, ⟨32, _⟩ => ⟨S512x2, .bf16⟩
  | .hbm, ⟨33, _⟩ => ⟨S512x512, .f32⟩
  | .local _ .vmem, ⟨0, _⟩ => ⟨S512x2, .f32⟩
  | .local _ .vmem, ⟨1, _⟩ => ⟨S512x2, .bf16⟩
  | .local _ .vmem, ⟨2, _⟩ => ⟨S512x512, .f32⟩
  | .local _ .vmem, ⟨3, _⟩ => ⟨S512x512, .f32⟩
  | .local _ .vmem, ⟨4, _⟩ => ⟨S2x512x1024, .f32⟩
  | .local _ .vmem, ⟨5, _⟩ => ⟨S2x1024x512, .f32⟩
  | .local _ .vmem, ⟨6, _⟩ => ⟨S512x512, .bf16⟩
  | .local _ .vmem, ⟨7, _⟩ => ⟨S512x512, .bf16⟩
  | .local _ .vmem, ⟨8, _⟩ => ⟨S512x2, .bf16⟩
  | .local _ .vmem, ⟨9, _⟩ => ⟨S512x512, .bf16⟩
  | .local _ .vmem, ⟨10, _⟩ => ⟨S512x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_10 : BitVec 32 := 8#32
  let v24 : BitVec 32 := Scalar.muli v9 c8_i32_10
  let v25 : BitVec 32 := Scalar.addi c0_i32_11 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v26 : BitVec 32 := Scalar.muli v5 c4_i32_12
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v28 : BitVec 32 := Scalar.muli v8 c1_i32_13
  let v29 : BitVec 32 := Scalar.addi v27 v28
  v29.toNat
def k0_dev2 (d0 : Dev nD) : Nat :=
  let c0_i32_18 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_17 : BitVec 32 := 8#32
  let v30 : BitVec 32 := Scalar.muli v9 c8_i32_17
  let v31 : BitVec 32 := Scalar.addi c0_i32_18 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v32 : BitVec 32 := Scalar.muli v5 c4_i32_19
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v34 : BitVec 32 := Scalar.muli v8 c1_i32_20
  let v35 : BitVec 32 := Scalar.addi v33 v34
  v35.toNat
def k0_dev3 (d0 : Dev nD) : Nat :=
  let c0_i32_24 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_23 : BitVec 32 := 8#32
  let v40 : BitVec 32 := Scalar.muli v9 c8_i32_23
  let v41 : BitVec 32 := Scalar.addi c0_i32_24 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v42 : BitVec 32 := Scalar.muli v5 c4_i32_25
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v44 : BitVec 32 := Scalar.muli v8 c1_i32_26
  let v45 : BitVec 32 := Scalar.addi v43 v44
  v45.toNat
def k0_dev4 (d0 : Dev nD) : Nat :=
  let c0_i32_34 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_33 : BitVec 32 := 8#32
  let v52 : BitVec 32 := Scalar.muli v9 c8_i32_33
  let v53 : BitVec 32 := Scalar.addi c0_i32_34 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v54 : BitVec 32 := Scalar.muli v5 c4_i32_35
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v56 : BitVec 32 := Scalar.muli v8 c1_i32_36
  let v57 : BitVec 32 := Scalar.addi v55 v56
  v57.toNat
def k0_dev5 (d0 : Dev nD) : Nat :=
  let c0_i32_43 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_42 : BitVec 32 := 8#32
  let v64 : BitVec 32 := Scalar.muli v9 c8_i32_42
  let v65 : BitVec 32 := Scalar.addi c0_i32_43 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v66 : BitVec 32 := Scalar.muli v5 c4_i32_44
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v68 : BitVec 32 := Scalar.muli v8 c1_i32_45
  let v69 : BitVec 32 := Scalar.addi v67 v68
  v69.toNat
def k0_dev6 (d0 : Dev nD) : Nat :=
  let c0_i32_51 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_50 : BitVec 32 := 8#32
  let v76 : BitVec 32 := Scalar.muli v9 c8_i32_50
  let v77 : BitVec 32 := Scalar.addi c0_i32_51 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v78 : BitVec 32 := Scalar.muli v5 c4_i32_52
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v80 : BitVec 32 := Scalar.muli v8 c1_i32_53
  let v81 : BitVec 32 := Scalar.addi v79 v80
  v81.toNat
def k0_dev7 (d0 : Dev nD) : Nat :=
  let c0_i32_101 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_100 : BitVec 32 := 8#32
  let v143 : BitVec 32 := Scalar.muli v9 c8_i32_100
  let v144 : BitVec 32 := Scalar.addi c0_i32_101 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v145 : BitVec 32 := Scalar.muli v5 c4_i32_102
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v147 : BitVec 32 := Scalar.muli v8 c1_i32_103
  let v148 : BitVec 32 := Scalar.addi v146 v147
  v148.toNat
def k0_dev8 (d0 : Dev nD) : Nat :=
  let c0_i32_144 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_143 : BitVec 32 := 8#32
  let v198 : BitVec 32 := Scalar.muli v9 c8_i32_143
  let v199 : BitVec 32 := Scalar.addi c0_i32_144 v198
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v200 : BitVec 32 := Scalar.muli v5 c4_i32_145
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v202 : BitVec 32 := Scalar.muli v8 c1_i32_146
  let v203 : BitVec 32 := Scalar.addi v201 v202
  v203.toNat
def k0_dev9 (d0 : Dev nD) : Nat :=
  let c0_i32_187 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_186 : BitVec 32 := 8#32
  let v253 : BitVec 32 := Scalar.muli v9 c8_i32_186
  let v254 : BitVec 32 := Scalar.addi c0_i32_187 v253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v255 : BitVec 32 := Scalar.muli v5 c4_i32_188
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v257 : BitVec 32 := Scalar.muli v8 c1_i32_189
  let v258 : BitVec 32 := Scalar.addi v256 v257
  v258.toNat
def k0_dev10 (d0 : Dev nD) : Nat :=
  let c0_i32_230 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_229 : BitVec 32 := 8#32
  let v308 : BitVec 32 := Scalar.muli v9 c8_i32_229
  let v309 : BitVec 32 := Scalar.addi c0_i32_230 v308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_231 : BitVec 32 := 4#32
  let v310 : BitVec 32 := Scalar.muli v5 c4_i32_231
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v312 : BitVec 32 := Scalar.muli v8 c1_i32_232
  let v313 : BitVec 32 := Scalar.addi v311 v312
  v313.toNat
abbrev stage0_0 : Fin 1 → Memref sig .tc .vmem S512x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 66
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S4x512x1024, .f32⟩
  | .hbm, ⟨3, _⟩ => ⟨S4x1024x512, .f32⟩
  | .hbm, ⟨4, _⟩ => ⟨S_, .f32⟩
  | .hbm, ⟨5, _⟩ => ⟨S1024x512, .f32⟩
  | .hbm, ⟨6, _⟩ => ⟨S1x512x1024, .f32⟩
  | .hbm, ⟨7, _⟩ => ⟨S512x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024x1, .i1⟩
  | .hbm, ⟨16, _⟩ => ⟨S1x1024x512, .f32⟩
  | .hbm, ⟨17, _⟩ => ⟨S1024x512, .f32⟩
  | .hbm, ⟨18, _⟩ => ⟨S1024x512, .f32⟩
  | .hbm, ⟨19, _⟩ => ⟨S1024x512, .i1⟩
  | .hbm, ⟨20, _⟩ => ⟨S1024x512, .f32⟩
  | .hbm, ⟨21, _⟩ => ⟨S1x512x1024, .f32⟩
  | .hbm, ⟨22, _⟩ => ⟨S512x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S1024x1, .i1⟩
  | .hbm, ⟨31, _⟩ => ⟨S1x1024x512, .f32⟩
  | .hbm, ⟨32, _⟩ => ⟨S1024x512, .f32⟩
  | .hbm, ⟨33, _⟩ => ⟨S1024x512, .f32⟩
  | .hbm, ⟨34, _⟩ => ⟨S1024x512, .i1⟩
  | .hbm, ⟨35, _⟩ => ⟨S1024x512, .f32⟩
  | .hbm, ⟨36, _⟩ => ⟨S1x512x1024, .f32⟩
  | .hbm, ⟨37, _⟩ => ⟨S512x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S1024x1, .i1⟩
  | .hbm, ⟨46, _⟩ => ⟨S1x1024x512, .f32⟩
  | .hbm, ⟨47, _⟩ => ⟨S1024x512, .f32⟩
  | .hbm, ⟨48, _⟩ => ⟨S1024x512, .f32⟩
  | .hbm, ⟨49, _⟩ => ⟨S1024x512, .i1⟩
  | .hbm, ⟨50, _⟩ => ⟨S1024x512, .f32⟩
  | .hbm, ⟨51, _⟩ => ⟨S1x512x1024, .f32⟩
  | .hbm, ⟨52, _⟩ => ⟨S512x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S1024x1, .i1⟩
  | .hbm, ⟨61, _⟩ => ⟨S1x1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Ideal.Base.lean ====
/-
  The protocol of the kernel's conversation: who talks to whom, what each buffer holds when it is handed over, and the
  schedule of payments on every semaphore cell.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Rounds
public import Idealize.ShloMosaic.Lib.Rounds.Family
public import Idealize.ShloMosaic.Lib.Tactic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Partners -/

/-- The device half the machine away: same place on every mesh axis but the first, the other place on the first. -/
def pr (c : Dev nD) : Dev nD := ⟨(c.val + 8) % 16, Nat.mod_lt _ (by decide)⟩
theorem pr_pr (c : Dev nD) : pr (pr c) = c := by revert c; decide
/-- The partner map as a permutation of the devices. -/
def ring : Dev nD ≃ Dev nD := ⟨pr, pr, pr_pr, pr_pr⟩

theorem half (c : Dev nD) : (4 * ((c.val / 4) % 2) + (c.val % 4) + 8) - 8 * (c.val / 8) = (c.val + 8) % 16 := by
  revert c; decide
theorem dev1_eq (c : Dev nD) : (⟨k0_dev1 c, k0_dev1_lt c⟩ : Dev nD) = pr c := Fin.ext ((k0_dev1_eq c).trans (half c))
theorem dev2_eq (c : Dev nD) : (⟨k0_dev2 c, k0_dev2_lt c⟩ : Dev nD) = pr c := Fin.ext ((k0_dev2_eq c).trans (half c))
theorem dev3_eq (c : Dev nD) : (⟨k0_dev3 c, k0_dev3_lt c⟩ : Dev nD) = pr c := Fin.ext ((k0_dev3_eq c).trans (half c))
theorem dev4_eq (c : Dev nD) : (⟨k0_dev4 c, k0_dev4_lt c⟩ : Dev nD) = pr c := Fin.ext ((k0_dev4_eq c).trans (half c))
theorem dev5_eq (c : Dev nD) : (⟨k0_dev5 c, k0_dev5_lt c⟩ : Dev nD) = pr c := Fin.ext ((k0_dev5_eq c).trans (half c))
theorem dev6_eq (c : Dev nD) : (⟨k0_dev6 c, k0_dev6_lt c⟩ : Dev nD) = pr c := Fin.ext ((k0_dev6_eq c).trans (half c))
theorem dev7_eq (c : Dev nD) : (⟨k0_dev7 c, k0_dev7_lt c⟩ : Dev nD) = pr c := Fin.ext ((k0_dev7_eq c).trans (half c))
theorem dev8_eq (c : Dev nD) : (⟨k0_dev8 c, k0_dev8_lt c⟩ : Dev nD) = pr c := Fin.ext ((k0_dev8_eq c).trans (half c))
theorem dev9_eq (c : Dev nD) : (⟨k0_dev9 c, k0_dev9_lt c⟩ : Dev nD) = pr c := Fin.ext ((k0_dev9_eq c).trans (half c))
theorem dev10_eq (c : Dev nD) : (⟨k0_dev10 c, k0_dev10_lt c⟩ : Dev nD) = pr c := Fin.ext ((k0_dev10_eq c).trans (half c))

/-! ## The resource algebra -/

abbrev UU : Type := UR sig nD τ × UR sig nD τ
local notation "𝕄" => MT nD τ sig Unit (Elt F) ℕ UU ℕ
abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

/-- Running a piece of the kernel on device `c` to a postcondition. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Buffers -/

/-- The four bands of 128 rows of a buffer of 512 rows. -/
abbrev band : Fin 4 → Rect S512x512
  | 0 => Rect.unit (s := S512x512) ![0, 0] S128x512.size inb_S512x512_S128x512_0_0
  | 1 => Rect.unit (s := S512x512) ![128, 0] S128x512.size inb_S512x512_S128x512_128_0
  | 2 => Rect.unit (s := S512x512) ![256, 0] S128x512.size inb_S512x512_S128x512_256_0
  | 3 => Rect.unit (s := S512x512) ![384, 0] S128x512.size inb_S512x512_S128x512_384_0

/-- A buffer seen through one of its bands. -/
abbrev chunk {e : EltTy} (M : Memref sig .tc .vmem S512x512 e) : Fin 4 → Memref sig .tc .vmem S128x512 e
  | 0 => M.slice (Rect.unit (s := S512x512) ![0, 0] S128x512.size inb_S512x512_S128x512_0_0) (fun _ => rfl)
  | 1 => M.slice (Rect.unit (s := S512x512) ![128, 0] S128x512.size inb_S512x512_S128x512_128_0) (fun _ => rfl)
  | 2 => M.slice (Rect.unit (s := S512x512) ![256, 0] S128x512.size inb_S512x512_S128x512_256_0) (fun _ => rfl)
  | 3 => M.slice (Rect.unit (s := S512x512) ![384, 0] S128x512.size inb_S512x512_S128x512_384_0) (fun _ => rfl)

abbrev msM : Memref sig .tc .vmem S512x2 .f32 := Memref.whole cc0_stg0_0
abbrev mnM : Memref sig .tc .vmem S512x2 .bf16 := Memref.whole cc0_stg1_0
abbrev outM : Memref sig .tc .vmem S512x512 .f32 := Memref.whole cc0_stg2_0
abbrev xM : Memref sig .tc .vmem S512x512 .f32 := Memref.whole cc0_scratch0
abbrev w1M : Memref sig .tc .vmem S2x512x1024 .f32 := Memref.whole cc0_scratch1
abbrev w2M : Memref sig .tc .vmem S2x1024x512 .f32 := Memref.whole cc0_scratch2
abbrev xsdM : Memref sig .tc .vmem S512x512 .bf16 := Memref.whole cc0_scratch3
abbrev xrM : Memref sig .tc .vmem S512x512 .bf16 := Memref.whole cc0_scratch4
abbrev mrM : Memref sig .tc .vmem S512x2 .bf16 := Memref.whole cc0_scratch5
abbrev prcM : Memref sig .tc .vmem S512x512 .bf16 := Memref.whole cc0_scratch6
abbrev psdM : Memref sig .tc .vmem S512x512 .bf16 := Memref.whole cc0_scratch7
abbrev xH : Memref sig .tc .hbm S512x512 .f32 := Memref.whole main_arg0
abbrev w1H : Memref sig .tc .hbm S2x512x1024 .f32 := Memref.whole main_arg2
abbrev w2H : Memref sig .tc .hbm S2x1024x512 .f32 := Memref.whole main_arg3

/-- Device `c` has all of what `M` shows, its buffer at contents `f`. -/
abbrev has {sp : Space} {s : Shape} {e : EltTy} (c : Dev nD) (M : Memref sig .tc sp s e)
    (f : Buf (Elt F) (M.view.loc (c : Thread nD τ))) : sProp 𝕄 :=
  M.view.loc (c : Thread nD τ) ↦[M.view.set]{fullShare} f

/-! ## Contents -/

variable (V : Dev nD → Valuation τ sig (Elt F))

/-- The rows a device computes on, read from its own copy of `x`. -/
def xv (c : Dev nD) : Vec F S512x512 .f32 :=
  xM.view.readAt (Elt F) (Rect.unit (s := S512x512) ![0, 0] S512x512.size inb_S512x512_S512x512_0_0).toLoadRect (V c main_arg0)
/-- The rows a device sends, in the narrow format. -/
def xb (c : Dev nD) : S512x512.Idx → Elt F .bf16 := k0_pay1 (xv V c)
/-- The first of a device's two first-layer matrices. -/
def wa0 (c : Dev nD) : Vec F S1x512x1024 .f32 :=
  w1M.view.readAt (Elt F) (Rect.unit (s := S2x512x1024) ![0, 0, 0] S1x512x1024.size inb_S2x512x1024_S1x512x1024_0_0_0).toLoadRect (V c main_arg2)
/-- The second of a device's two first-layer matrices. -/
def wa1 (c : Dev nD) : Vec F S1x512x1024 .f32 :=
  w1M.view.readAt (Elt F) (Rect.unit (s := S2x512x1024) ![1, 0, 0] S1x512x1024.size inb_S2x512x1024_S1x512x1024_1_0_0).toLoadRect (V c main_arg2)
/-- The first of a device's two second-layer matrices. -/
def wb0 (c : Dev nD) : Vec F S1x1024x512 .f32 :=
  w2M.view.readAt (Elt F) (Rect.unit (s := S2x1024x512) ![0, 0, 0] S1x1024x512.size inb_S2x1024x512_S1x1024x512_0_0_0).toLoadRect (V c main_arg3)
/-- The second of a device's two second-layer matrices. -/
def wb1 (c : Dev nD) : Vec F S1x1024x512 .f32 :=
  w2M.view.readAt (Elt F) (Rect.unit (s := S2x1024x512) ![1, 0, 0] S1x1024x512.size inb_S2x1024x512_S1x1024x512_1_0_0).toLoadRect (V c main_arg3)

/-- Band `k` of the rows received from the partner. -/
def xw (c : Dev nD) : Fin 4 → Vec F S128x512 .bf16
  | 0 => xrM.view.readAt (Elt F) (Rect.unit (s := S512x512) ![0, 0] S128x512.size inb_S512x512_S128x512_0_0).toLoadRect (xb V (pr c))
  | 1 => xrM.view.readAt (Elt F) (Rect.unit (s := S512x512) ![128, 0] S128x512.size inb_S512x512_S128x512_128_0).toLoadRect (xb V (pr c))
  | 2 => xrM.view.readAt (Elt F) (Rect.unit (s := S512x512) ![256, 0] S128x512.size inb_S512x512_S128x512_256_0).toLoadRect (xb V (pr c))
  | 3 => xrM.view.readAt (Elt F) (Rect.unit (s := S512x512) ![384, 0] S128x512.size inb_S512x512_S128x512_384_0).toLoadRect (xb V (pr c))
/-- Band `k` of the selection mask received from the partner. -/
def mw (c : Dev nD) : Fin 4 → Vec F S128x2 .bf16
  | 0 => mrM.view.readAt (Elt F) (Rect.unit (s := S512x2) ![0, 0] S128x2.size inb_S512x2_S128x2_0_0).toLoadRect (V (pr c) main_v24)
  | 1 => mrM.view.readAt (Elt F) (Rect.unit (s := S512x2) ![128, 0] S128x2.size inb_S512x2_S128x2_128_0).toLoadRect (V (pr c) main_v24)
  | 2 => mrM.view.readAt (Elt F) (Rect.unit (s := S512x2) ![256, 0] S128x2.size inb_S512x2_S128x2_256_0).toLoadRect (V (pr c) main_v24)
  | 3 => mrM.view.readAt (Elt F) (Rect.unit (s := S512x2) ![384, 0] S128x2.size inb_S512x2_S128x2_384_0).toLoadRect (V (pr c) main_v24)

/-- Band `k` of the partial result a device computes for its partner. -/
def ps (c : Dev nD) : Fin 4 → FVec F S128x512 .bf16
  | 0 => k0_pay6 (k0_pay2 (xw V c 0)) (k0_pay3 (mw V c 0)) (k0_pay4 (F := F)) (k0_pay5 (xw V c 0) (mw V c 0) (wa0 V c)) (wb0 V c) (wa1 V c) (wb1 V c)
  | 1 => k0_pay11 (k0_pay9 (xw V c 1) (mw V c 1) (wa0 V c) (wb0 V c)) (k0_pay10 (xw V c 1) (mw V c 1) (wa1 V c)) (wb1 V c)
  | 2 => k0_pay12 (xw V c 2) (mw V c 2) (wa0 V c) (wb0 V c) (wa1 V c) (wb1 V c)
  | 3 => k0_pay18 (k0_pay13 (xw V c 3)) (k0_pay14 (mw V c 3)) (k0_pay15 (F := F)) (k0_pay16 (xw V c 3) (mw V c 3)) (k0_pay17 (wa0 V c)) (wb0 V c) (wa1 V c) (wb1 V c)

/-- The send buffer of the partial results as band `k` goes out: the band at the computed rows (the other rows do not count). -/
def psf (c : Dev nD) : Fin 4 → S512x512.Idx → Elt F .bf16
  | 0 => (chunk psdM 0).view.write (Elt F) (xb V c) (ps V c 0) Finset.univ
  | 1 => (chunk psdM 1).view.write (Elt F) (xb V c) (ps V c 1) Finset.univ
  | 2 => (chunk psdM 2).view.write (Elt F) (xb V c) (ps V c 2) Finset.univ
  | 3 => (chunk psdM 3).view.write (Elt F) (xb V c) (ps V c 3) Finset.univ

/-- The receive buffer of the partial results as band `k` has come in: the band at the rows the partner computed. -/
def prf (c : Dev nD) : Fin 4 → S512x512.Idx → Elt F .bf16
  | 0 => (chunk prcM 0).view.write (Elt F) (xb V c) (ps V (pr c) 0) Finset.univ
  | 1 => (chunk prcM 1).view.write (Elt F) (xb V c) (ps V (pr c) 1) Finset.univ
  | 2 => (chunk prcM 2).view.write (Elt F) (xb V c) (ps V (pr c) 2) Finset.univ
  | 3 => (chunk prcM 3).view.write (Elt F) (xb V c) (ps V (pr c) 3) Finset.univ

/-- The result block before any partial result is added: what a device computes for its own rows. -/
def o0 (c : Dev nD) : S512x512.Idx → Elt F .f32 :=
  (outM.access (Rect.unit (s := S512x512) ![0, 0] S512x512.size inb_S512x512_S512x512_0_0)).write (Elt F) (V c main_arg0)
    (k0_pay19 (xv V c)
      (msM.view.readAt (Elt F) (Rect.unit (s := S512x2) ![0, 0] S512x2.size inb_S512x2_S512x2_0_0).toLoadRect (V c main_v14))
      (wa0 V c) (wb0 V c) (wa1 V c) (wb1 V c)) Finset.univ
/-- The result block once the partner's first band is added. -/
def o1 (c : Dev nD) : S512x512.Idx → Elt F .f32 :=
  (outM.access (Rect.unit (s := S512x512) ![0, 0] S128x512.size inb_S512x512_S128x512_0_0)).write (Elt F) (o0 V c)
    (k0_pay20
      (outM.view.readAt (Elt F) (Rect.unit (s := S512x512) ![0, 0] S128x512.size inb_S512x512_S128x512_0_0).toLoadRect (o0 V c))
      (prcM.view.readAt (Elt F) (Rect.unit (s := S512x512) ![0, 0] S128x512.size inb_S512x512_S128x512_0_0).toLoadRect (prf V c 0))) Finset.univ
/-- The result block once the partner's first two bands are added. -/
def o2 (c : Dev nD) : S512x512.Idx → Elt F .f32 :=
  (outM.access (Rect.unit (s := S512x512) ![128, 0] S128x512.size inb_S512x512_S128x512_128_0)).write (Elt F) (o1 V c)
    (k0_pay22 (k0_pay21
      (outM.view.readAt (Elt F) (Rect.unit (s := S512x512) ![128, 0] S128x512.size inb_S512x512_S128x512_128_0).toLoadRect (o1 V c)))
      (prcM.view.readAt (Elt F) (Rect.unit (s := S512x512) ![128, 0] S128x512.size inb_S512x512_S128x512_128_0).toLoadRect (prf V c 1))) Finset.univ
/-- The result block once the partner's first three bands are added. -/
def o3 (c : Dev nD) : S512x512.Idx → Elt F .f32 :=
  (outM.access (Rect.unit (s := S512x512) ![256, 0] S128x512.size inb_S512x512_S128x512_256_0)).write (Elt F) (o2 V c)
    (k0_pay23
      (outM.view.readAt (Elt F) (Rect.unit (s := S512x512) ![256, 0] S128x512.size inb_S512x512_S128x512_256_0).toLoadRect (o2 V c))
      (prcM.view.readAt (Elt F) (Rect.unit (s := S512x512) ![256, 0] S128x512.size inb_S512x512_S128x512_256_0).toLoadRect (prf V c 2))) Finset.univ
/-- The finished result block: all four of the partner's bands added. -/
def o4 (c : Dev nD) : S512x512.Idx → Elt F .f32 :=
  (outM.access (Rect.unit (s := S512x512) ![384, 0] S128x512.size inb_S512x512_S128x512_384_0)).write (Elt F) (o3 V c)
    (k0_pay24
      (outM.view.readAt (Elt F) (Rect.unit (s := S512x512) ![384, 0] S128x512.size inb_S512x512_S128x512_384_0).toLoadRect (o3 V c))
      (prcM.view.readAt (Elt F) (Rect.unit (s := S512x512) ![384, 0] S128x512.size inb_S512x512_S128x512_384_0).toLoadRect (prf V c 3))) Finset.univ

/-! ## Cells -/

/-- The DMA semaphores of the conversation: three for the copies in (0 to 2), nine for sending (3 to 11), nine for
    receiving (12 to 20). -/
abbrev dsem (k : Fin 21) : DmaSem sig := ⟨k.val + 3, by have := k.isLt; show k.val + 3 < 24; omega⟩
abbrev barS : Sem sig := (SemArray.scalar (sig.barrier 0 rfl) : Sems sig S_).sem
abbrev barCell (c : Dev nD) : GSem nD τ sig := ((c : Thread nD τ), .reg barS)
abbrev cell (c : Dev nD) (k : Fin 21) : GSem nD τ sig := ((c : Thread nD τ), .dma (dsem k))
/-- Semaphore `k` of the nine a device receives on. -/
abbrev rk (k : Fin 9) : Fin 21 := ⟨k.val + 12, by omega⟩

/-! ## Payments -/

/-- What the last arrival on a DMA cell hands to the cell's owner: for a copy in, the copy and its source; for a send, the
    sent band back; for a receive, the band that came in. -/
def dpay (c : Dev nD) : Fin 21 → sProp 𝕄
  | 0 => iprop(has c w1M (V c main_arg2) ∗ has c w1H (V c main_arg2))
  | 1 => iprop(has c w2M (V c main_arg3) ∗ has c w2H (V c main_arg3))
  | 2 => iprop(has c xM (V c main_arg0) ∗ has c xH (V c main_arg0))
  | 3 => has c (chunk xsdM 0) (xb V c)
  | 4 => has c (chunk xsdM 1) (xb V c)
  | 5 => has c (chunk xsdM 2) (xb V c)
  | 6 => has c (chunk xsdM 3) (xb V c)
  | 7 => has c (chunk psdM 0) (psf V c 0)
  | 8 => has c (chunk psdM 1) (psf V c 1)
  | 9 => has c (chunk psdM 2) (psf V c 2)
  | 10 => has c (chunk psdM 3) (psf V c 3)
  | 11 => has c mnM (V c main_v24)
  | 12 => has c (chunk xrM 0) (xb V (pr c))
  | 13 => has c (chunk xrM 1) (xb V (pr c))
  | 14 => has c (chunk xrM 2) (xb V (pr c))
  | 15 => has c (chunk xrM 3) (xb V (pr c))
  | 16 => has c (chunk prcM 0) (prf V c 0)
  | 17 => has c (chunk prcM 1) (prf V c 1)
  | 18 => has c (chunk prcM 2) (prf V c 2)
  | 19 => has c (chunk prcM 3) (prf V c 3)
  | _ => has c mrM (V (pr c) main_v24)

/-- The credit an arrival brings. -/
def damt : Fin 21 → ℕ
  | 0 => w1M.view.dmaCredit
  | 1 => w2M.view.dmaCredit
  | 2 => xM.view.dmaCredit
  | 11 => mrM.view.dmaCredit
  | 20 => mrM.view.dmaCredit
  | _ => (chunk xsdM 0).view.dmaCredit
theorem damt_pos (k : Fin 21) : 0 < damt k := by
  unfold damt
  split <;> exact View.dmaCredit_pos _ (by decide)

/-- What a device is handed at its barrier: its partner's three landing buffers, and that the partner is ready to receive. -/
def barPay (c : Dev nD) : sProp 𝕄 :=
  iprop((∃ f, has (pr c) xrM f) ∗ (∃ f, has (pr c) mrM f) ∗ (∃ f, has (pr c) prcM f)
    ∗ bigSep (Finset.univ : Finset (Fin 9)) fun k => reached ER (cell (pr c) (rk k)) 0)

/-- The payload on a semaphore of device `c`. -/
def pay (c : Dev nD) : SemLoc sig → sProp 𝕄
  | .reg _ => barPay c
  | .dma s => if h : 3 ≤ s.val then dpay V c ⟨s.val - 3, by have : s.val < 24 := s.isLt; omega⟩ else iprop(emp)
/-- The amount paid on a semaphore. -/
def amt : SemLoc sig → ℕ
  | .reg _ => 1
  | .dma s => if h : 3 ≤ s.val then damt ⟨s.val - 3, by have : s.val < 24 := s.isLt; omega⟩ else 1
theorem amt_pos (s : SemLoc sig) : 0 < amt s := by
  unfold amt
  split
  · exact Nat.one_pos
  · split
    · exact damt_pos _
    · exact Nat.one_pos

/-- One payment on every cell of a device's main core, in the first round, and none later. -/
def Rd : Rounds.Schedule (GSem nD τ sig) Unit 𝕄 where
  duties g r := if r = 0 ∧ g.1.2 = .tc then {()} else ∅
  unitless _ := False
  amount g _ _ := amt g.2
  payload g _ _ := pay V g.1.1 g.2
  amount_pos g _ _ _ := amt_pos g.2

instance dpay_storable (c : Dev nD) (k : Fin 21) : BI.Storable (upEmb : UEmb _ 𝕄) (dpay V c k) := by
  unfold dpay
  split <;> infer_instance
set_option synthInstance.maxHeartbeats 400000 in
instance barPay_storable (c : Dev nD) : BI.Storable (upEmb : UEmb _ 𝕄) (barPay (F := F) c) := by
  unfold barPay; infer_instance
instance Rd_storable (g : GSem nD τ sig) (r : ℕ) (d : Unit) : BI.Storable (upEmb : UEmb _ 𝕄) ((Rd V).payload g r d) := by
  show BI.Storable upEmb (pay V g.1.1 g.2)
  unfold pay
  split
  · infer_instance
  · split <;> infer_instance

theorem duties_tc (c : Dev nD) (s : SemLoc sig) : (Rd V).duties ((c : Thread nD τ), s) 0 = {()} := by
  dsimp only [Rd]; exact if_pos ⟨rfl, rfl⟩
theorem duties_mem (c : Dev nD) (s : SemLoc sig) : () ∈ (Rd V).duties ((c : Thread nD τ), s) 0 := by
  rw [duties_tc]; exact Finset.mem_singleton_self _
theorem duties_later (g : GSem nD τ sig) : ∀ r, 1 ≤ r → (Rd V).duties g r = ∅ := fun r hr => if_neg fun h => by omega
theorem amt_dma (k : Fin 21) : amt (.dma (dsem k)) = damt k := by
  show (if h : 3 ≤ k.val + 3 then damt ⟨k.val + 3 - 3, _⟩ else 1) = _
  rw [dif_pos (by omega)]
  exact congrArg damt (Fin.ext (by simp))
theorem pay_dma (c : Dev nD) (k : Fin 21) : pay V c (.dma (dsem k)) = dpay V c k := by
  show (if h : 3 ≤ k.val + 3 then dpay V c ⟨k.val + 3 - 3, _⟩ else iprop(emp)) = _
  rw [dif_pos (by omega)]
  exact congrArg (dpay V c) (Fin.ext (by simp))
theorem amount_dma (c : Dev nD) (k : Fin 21) : (Rd V).amount (cell c k) 0 () = damt k := amt_dma k
theorem payload_dma (c : Dev nD) (k : Fin 21) : (Rd V).payload (cell c k) 0 () = dpay V c k := pay_dma V c k
theorem amount_bar (c : Dev nD) : (Rd V).amount (barCell c) 0 () = 1 := rfl
theorem payload_bar (c : Dev nD) : (Rd V).payload (barCell c) 0 () = barPay c := rfl
theorem expect_tc (c : Dev nD) (s : SemLoc sig) : (Rd V).expect ((c : Thread nD τ), s) 0 = amt s := by
  unfold Schedule.expect Schedule.amountOf
  rw [duties_tc, Finset.sum_singleton]; rfl
theorem rest_tc (c : Dev nD) (s : SemLoc sig) :
    bigSep ((Rd V).duties ((c : Thread nD τ), s) 0 \ ∅) (fun d => (Rd V).payload ((c : Thread nD τ), s) 0 d) = pay V c s := by
  rw [Finset.sdiff_empty, duties_tc, bigSep_singleton]; rfl

/-! ## What a device owes, and the levels -/

/-- The semaphores of the partner a device has still to pay, the last payment first: the four bands of partial results, the
    four bands of rows, the mask, and the barrier. -/
def dueSem : ℕ → SemLoc sig
  | 0 => .dma (dsem 19)
  | 1 => .dma (dsem 18)
  | 2 => .dma (dsem 17)
  | 3 => .dma (dsem 16)
  | 4 => .dma (dsem 15)
  | 5 => .dma (dsem 14)
  | 6 => .dma (dsem 13)
  | 7 => .dma (dsem 12)
  | 8 => .dma (dsem 20)
  | _ => .reg barS
/-- What a device owes while its last `n` payments are outstanding. -/
def due (c : Dev nD) : ℕ → CellTallies nD τ sig Unit
  | 0 => 0
  | n + 1 => due c n + tallyAt ((pr c : Thread nD τ), dueSem n) () (amt (dueSem n))

/-- The level of a semaphore: a device waits on a lower level than all it still owes. -/
def lvS : SemLoc sig → ℕ
  | .reg _ => 1
  | .dma s => if s.val < 15 then 0 else if 19 ≤ s.val ∧ s.val ≤ 22 then 3 else 2
def L (g : GSem nD τ sig) : Finset Unit := if g.1.2 = .tc then {()} else ∅
def lv (g : GSem nD τ sig) (_ : Unit) : ℕ := lvS g.2
theorem L_of_ne (g : GSem nD τ sig) (h : g.1.2 ≠ .tc) : L g = ∅ := if_neg h
theorem L_tc (c : Dev nD) (s : SemLoc sig) : L ((c : Thread nD τ), s) = {()} := if_pos rfl

/-- Every cell owed at stage `n` is one of the last `n` payments. -/
theorem due_pos {c : Dev nD} {n : ℕ} {g : GSem nD τ sig} {u : Unit} (h : 0 < due c n g u) :
    ∃ i < n, g = ((pr c : Thread nD τ), dueSem i) := by
  induction n with
  | zero => exact absurd h (Nat.lt_irrefl 0)
  | succ n ih =>
    unfold due at h
    rw [Pi.add_apply, Finsupp.add_apply] at h
    rcases Nat.add_pos_iff_pos_or_pos.mp h with h | h
    · obtain ⟨i, hi, e⟩ := ih h
      exact ⟨i, Nat.lt_succ_of_lt hi, e⟩
    · rw [tallyAt_apply] at h
      split at h
      · next hg => exact ⟨n, Nat.lt_succ_self n, hg.1⟩
      · exact absurd h (Nat.lt_irrefl 0)

/-- A wait below the level of every outstanding payment is allowed. -/
theorem mayWait (c : Dev nD) (s : SemLoc sig) (n : ℕ) (h : ∀ i < n, lvS s < lvS (dueSem i)) :
    (levAts L lv : sProp 𝕄) ⊢ MayWait (c : Thread nD τ) s () (due c n) :=
  MayOwe.of_cut (L := L) (lev := lv) (lvS s) (fun p hp => by rw [Finset.mem_singleton.mp hp, L_tc]; exact Finset.mem_singleton_self _)
    (fun g u hg => by
      obtain ⟨i, -, rfl⟩ := due_pos hg
      rw [L_tc]; exact Finset.mem_singleton_self _)
    (fun p hp => by rw [Finset.mem_singleton.mp hp]; exact Nat.le_refl _)
    (fun g u hg => by
      obtain ⟨i, hi, rfl⟩ := due_pos hg
      exact h i hi)

end Cert.KernelIdeal.Talk

end
-- ==== Proof.Ideal.Steps.lean ====
/-
  One step of the kernel's run at a time: a copy in, a send to the partner, a wait, a load, a store, and the pieces of a
  buffer of 512 rows.
-/
module

public import proofs.«01_k».proof.Proof.Ideal.Base

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Dev nD → Valuation τ sig (Elt F))

/-! ## What every step may use -/

/-- The invariants of every cell of the conversation, at the names `K`. -/
def recs (K : GSem nD τ sig → ℕ) : sProp 𝕄 :=
  iprop((bigSep (Finset.univ : Finset (Dev nD)) fun c => cellInv ER (Rd V) (K (barCell c)) (barCell c))
    ∗ bigSep (Finset.univ : Finset (Dev nD × Fin 21)) fun p => cellInv ER (Rd V) (K (cell p.1 p.2)) (cell p.1 p.2))
instance recs_persistent (K : GSem nD τ sig → ℕ) : BI.Persistent (recs V K) := by unfold recs; infer_instance

theorem recs_bar (K : GSem nD τ sig → ℕ) (c : Dev nD) : recs V K ⊢ cellInv ER (Rd V) (K (barCell c)) (barCell c) := by
  unfold recs
  exact sep_elim_left.trans (bigSep_elim (Φ := fun c : Dev nD => cellInv ER (Rd V) (K (barCell c)) (barCell c)) (Finset.mem_univ c))
theorem recs_cell (K : GSem nD τ sig → ℕ) (c : Dev nD) (k : Fin 21) : recs V K ⊢ cellInv ER (Rd V) (K (cell c k)) (cell c k) := by
  unfold recs
  exact sep_elim_right.trans
    (bigSep_elim (Φ := fun p : Dev nD × Fin 21 => cellInv ER (Rd V) (K (cell p.1 p.2)) (cell p.1 p.2)) (Finset.mem_univ (c, k)))

/-- The persistent facts device `c` works with: all invariants, the levels, and that its own DMA cells are open. -/
def ctx (K : GSem nD τ sig → ℕ) (c : Dev nD) : sProp 𝕄 :=
  iprop(recs V K ∗ levAts L lv ∗ bigSep (Finset.univ : Finset (Fin 21)) fun k => reached ER (cell c k) 0)
instance ctx_persistent (K : GSem nD τ sig → ℕ) (c : Dev nD) : BI.Persistent (ctx V K c) := by unfold ctx; infer_instance

/-- That a device's partner is ready to receive. -/
def ready (c : Dev nD) : sProp 𝕄 := bigSep (Finset.univ : Finset (Fin 9)) fun k => reached ER (cell (pr c) (rk k)) 0
instance ready_persistent (c : Dev nD) : BI.Persistent (ready (F := F) c) := by unfold ready; infer_instance

/-- What a device owes while its last `n` payments are outstanding, whatever it has waited for. -/
def owing (c : Dev nD) (n : ℕ) : sProp 𝕄 := iprop(∃ W, owes (c : Thread nD τ) (due c n) W)
/-- The right to wait on cell `k`: the credit, and the position at its first round. -/
def right (c : Dev nD) (k : Fin 21) : sProp 𝕄 := iprop(cred (tallyAt (cell c k) () (damt k)) ∗ atPos ER (cell c k) 0 ∅ 0)
/-- Cell `k`'s position once its one round is over. -/
def past (c : Dev nD) (k : Fin 21) : sProp 𝕄 := atPos ER (cell c k) 1 ∅ 0
/-- The right to pay cell `k`. -/
def tok (c : Dev nD) (k : Fin 21) : sProp 𝕄 := dutyTok ER (cell c k) 0 ()

theorem ctx_reached (K : GSem nD τ sig → ℕ) (c : Dev nD) (k : Fin 21) : ctx V K c ⊢ reached ER (cell c k) 0 := by
  unfold ctx
  exact sep_elim_right.trans (sep_elim_right.trans
    (bigSep_elim (Φ := fun k : Fin 21 => (reached ER (cell c k) 0 : sProp 𝕄)) (Finset.mem_univ k)))
theorem ctx_recs (K : GSem nD τ sig → ℕ) (c : Dev nD) : ctx V K c ⊢ recs V K := by
  unfold ctx; exact sep_elim_left
theorem ctx_cell (K : GSem nD τ sig → ℕ) (c d : Dev nD) (k : Fin 21) : ctx V K c ⊢ cellInv ER (Rd V) (K (cell d k)) (cell d k) :=
  (ctx_recs V K c).trans (recs_cell V K d k)
theorem ctx_bar (K : GSem nD τ sig → ℕ) (c d : Dev nD) : ctx V K c ⊢ cellInv ER (Rd V) (K (barCell d)) (barCell d) :=
  (ctx_recs V K c).trans (recs_bar V K d)
theorem ctx_mayWait (K : GSem nD τ sig → ℕ) (c : Dev nD) (s : SemLoc sig) (n : ℕ) (h : ∀ i < n, lvS s < lvS (dueSem i)) :
    ctx V K c ⊢ MayWait (c : Thread nD τ) s () (due c n) := by
  unfold ctx
  exact sep_elim_right.trans (sep_elim_left.trans (mayWait c s n h))
theorem ready_reached (c : Dev nD) (k : Fin 9) : ready (F := F) c ⊢ reached ER (cell (pr c) (rk k)) 0 := by
  unfold ready
  exact bigSep_elim (Φ := fun k : Fin 9 => (reached ER (cell (pr c) (rk k)) 0 : sProp 𝕄)) (Finset.mem_univ k)

/-! ## Steps -/

variable (K : GSem nD τ sig → ℕ) (c : Dev nD)

/-- A finished piece of program is at its postcondition. -/
theorem ret_step {α : Type} {Q : α → sProp 𝕄} (v : α) : Q v ⊢ run (F := F) c (.ret v) Q := by
  unfold run
  rw [wp_ret]
  iintro H; imodintro; iexact H

/-- A wait on DMA cell `k`, owing the last `n` payments: what arrived on the cell comes into hand. -/
theorem wait_step {α : Type} {Q : α → sProp 𝕄} (k : Fin 21) (n : ℕ) (hl : ∀ i < n, lvS (.dma (dsem k)) < lvS (dueSem i)) (P : sProp 𝕄) (hP : dpay V c k = P) {s : DmaSem sig} (hs : s = dsem k)
    {sp sp' : Space} {s₁ s₂ : Shape} {e₁ e₂ : EltTy} {src : Memref sig (c : Thread nD τ).2.kind sp' s₁ e₁} {dst : Memref sig .tc sp s₂ e₂}
    {hsrc : src.view.WordExact} {hdst : dst.view.WordExact} (hn : dst.view.dmaCredit = damt k)
    {kk : PUnit → Prog (TpuEff nD τ sig (Elt F) Λ₀ .tc) α} :
    iprop(ctx V K c ∗ right c k ∗ owing c n)
      ⊢ iprop(((owing c n ∗ past c k ∗ P) -∗ run c (kk ⟨⟩) Q) -∗ run c (.op (.waitDma2 s src dst hsrc hdst) kk) Q) := by
  subst hs hP
  unfold right owing past
  iintro ⟨#HC, ⟨Hc, Hat⟩, ⟨%W, HO⟩⟩ Hk
  iapply (Rounds.wp_wait_rest_token 𝒱₀ ER (Rd V) (c : Thread nD τ) none (κ := K (cell c k)) (sm := .dma (dsem k)) (k' := damt k)
      (fun R => (wpE_waitDma2_eq 𝒱₀ (c : Thread nD τ) none Set.univ R).trans (by rw [hn])) (Set.mem_univ _) () (O := due c n) (W := W) (R := 0) (m := 0) (T := ∅)
      ((Nat.zero_add _).trans ((amt_dma k).symm.trans (expect_tc V c (.dma (dsem k))).symm))) $$ [Hc HO Hat]
  · isplitr; · iapply (ctx_cell V K c (c) k); iexact HC
    isplitl [Hc]; · iexact Hc
    isplitl [HO]; · iexact HO
    isplitr; · iapply (ctx_mayWait V K c (.dma (dsem k)) n hl); iexact HC
    iexact Hat
  iintro ⟨HO, Hat, -, Hpay⟩
  ihave Hp := (Entails.of_eq ((rest_tc V c (.dma (dsem k))).trans (pay_dma V c k))) $$ Hpay
  iapply Hk
  isplitl [HO]; · iexists _; iexact HO
  isplitl [Hat]; · iexact Hat
  iexact Hp

/-- What lands in a band is what the same band of the source showed. -/
theorem landed {sp sp' : Space} {sh : Shape} {e : EltTy} (d : Dev nD) (src : Memref sig .tc sp sh e) (dst : Memref sig .tc sp' sh e)
    (fd g : Buf (Elt F) (dst.view.loc (d : Thread nD τ))) (w : sh.Idx → Elt F e) (h : dst.view.read (Elt F) g = w) :
    has d dst (dst.view.write (Elt F) fd w Finset.univ) = has d dst g := by
  subst h
  exact pointsTo_congr fun i hi => by
    obtain ⟨x, -, rfl⟩ := Finset.mem_map.mp hi
    rw [View.write_emb_of_mem _ _ (Finset.mem_univ x), View.read_apply, cast_cast, cast_eq]

/-- A copy within the device that pays cell `k`. -/
theorem copy_step {α : Type} {Q : α → sProp 𝕄} (k : Fin 21) {s : DmaSem sig} (hs : s = dsem k)
    {sp sp' : Space} {sh : Shape} {e : EltTy} {src : Memref sig (c : Thread nD τ).2.kind sp sh e} {dst : Memref sig (c : Thread nD τ).2.kind sp' sh e}
    {hsrc : src.view.WordExact} {hdst : dst.view.WordExact} {hsem : DmaTarget.Typed (nD := nD) (τ := τ) sp (.dma s) (.here dst)}
    (hn : dst.view.dmaCredit = damt k) (fs : Buf (Elt F) (src.view.loc (c : Thread nD τ))) (fd : Buf (Elt F) (dst.view.loc (c : Thread nD τ)))
    (g : Buf (Elt F) (dst.view.loc (c : Thread nD τ))) (hg : dst.view.read (Elt F) g = src.view.read (Elt F) fs)
    (hp : iprop(has c dst g ∗ has c src fs) ⊢ dpay V c k)
    {kk : PUnit → Prog (TpuEff nD τ sig (Elt F) Λ₀ .tc) α} :
    iprop(ctx V K c ∗ has c src fs ∗ has c dst fd ∗ tok c k ∗ atPos ER (cell c k) 0 ∅ 0)
      ⊢ iprop((right c k -∗ run c (kk ⟨⟩) Q) -∗ run c (.op (.enqueueDma src (.here dst) (.dma s) hsrc hdst hsem) kk) Q) := by
  subst hs
  unfold right tok
  iintro ⟨#HC, Hs, Hd, Ht, Hat⟩ Hk
  iapply (Rounds.wp_copy_pointsTo 𝒱₀ ER (Rd V) (c : Thread nD τ) none (src := src) (dst := dst) (sem := .dma (dsem k)) (q := fullShare)
      (fs := fs) (fd := fd) (r := 0) (d := ()) (κ := K (cell c k)) (duties_mem V c _) () (damt k) hn (amount_dma V c k)
      (by rw [payload_dma]; exact (Entails.of_eq (by rw [← landed c src dst fd g _ hg])).trans hp)) $$ [Hs Hd Ht]
  · isplitr; · iapply (ctx_cell V K c (c) k); iexact HC
    isplitl [Hs]; · iexact Hs
    isplitl [Hd]; · iexact Hd
    isplitl [Ht]; · iexact Ht
    iapply (ctx_reached V K c k); iexact HC
  iintro Hc
  iapply Hk
  isplitl [Hc]; · iexact Hc
  iexact Hat

/-- What a send needs besides the bytes: the rights to pay the cell here and the cell there, and the position of the one here. -/
def gear (c : Dev nD) (k : Fin 21) (j : Fin 9) : sProp 𝕄 := iprop(tok c k ∗ tok (pr c) (rk j) ∗ atPos ER (cell c k) 0 ∅ 0)

/-- A copy into the partner's buffer, paying cell `k` here and receive cell `j` there: the payment is off what is owed. -/
theorem send_step {α : Type} {Q : α → sProp 𝕄} (k : Fin 21) (j : Fin 9) (n : ℕ) (hdue : dueSem n = .dma (dsem (rk j))) {d : Dev nD} (hd : d = pr c)
    {sS sR : DmaSem sig} (hS : sS = dsem k) (hR : sR = dsem (rk j))
    {sp sp' : Space} {sh : Shape} {e : EltTy} {src : Memref sig (c : Thread nD τ).2.kind sp sh e} {dst : Memref sig .tc sp' sh e}
    {hsc : dst.view.ref.isScScratch = false} {hsrc : src.view.WordExact} {hdst : dst.view.WordExact}
    {hsem : DmaTarget.Typed sp (.dma sR) (.remote (Dev.tc (τ := τ) d) dst (.dma sS) hsc)}
    (hk : damt k = dst.view.dmaCredit) (hj : damt (rk j) = dst.view.dmaCredit)
    (fs : Buf (Elt F) (src.view.loc (c : Thread nD τ))) (fd : Buf (Elt F) (dst.view.loc (pr c : Thread nD τ)))
    (hp₁ : has c src fs ⊢ dpay V c k)
    (g : Buf (Elt F) (dst.view.loc (pr c : Thread nD τ))) (hg : dst.view.read (Elt F) g = src.view.read (Elt F) fs)
    (hp₂ : has (pr c) dst g ⊢ dpay V (pr c) (rk j))
    {kk : PUnit → Prog (TpuEff nD τ sig (Elt F) Λ₀ .tc) α} :
    iprop(ctx V K c ∗ ready c ∗ has c src fs ∗ has (pr c) dst fd ∗ owing c (n + 1) ∗ gear c k j)
      ⊢ iprop(((right c k ∗ owing c n) -∗ run c (kk ⟨⟩) Q)
        -∗ run c (.op (.enqueueDma src (.remote (Dev.tc (τ := τ) d) dst (.dma sS) hsc) (.dma sR) hsrc hdst hsem) kk) Q) := by
  subst hd hS hR
  unfold right gear tok owing
  iintro ⟨#HC, #HR, Hs, Hd, ⟨%W, HO⟩, Ht, Ht', Hat⟩ Hk
  iapply (Rounds.wp_send_pointsTo 𝒱₀ ER (Rd V) (c : Thread nD τ) none (c' := (pr c : Thread nD τ)) (src := src) (dst := dst)
      (sS := .dma (dsem k)) (sem := .dma (dsem (rk j))) (q := fullShare) (fs := fs) (fd := fd) (κ₁ := K (cell c k)) (κ₂ := K (cell (pr c) (rk j)))
      (r₁ := 0) (r₂ := 0) (d₁ := ()) (d₂ := ()) (duties_mem V c _) (duties_mem V (pr c) _)
      () () (damt k) hk.symm (amount_dma V c k) ((amount_dma V (pr c) (rk j)).trans (hj.trans hk.symm)) (O₀ := due c (n + 1)) (due c n)
      (by rw [due, hdue, amt_dma, hj, hk]) (W := W)
      (by rw [payload_dma]; exact hp₁)
      (by rw [payload_dma]; exact (Entails.of_eq (landed (pr c) src dst fd g _ hg)).trans hp₂)) $$ [Hs Hd HO Ht Ht']
  · isplitr; · iapply (ctx_cell V K c (c) k); iexact HC
    isplitr; · iapply (ctx_cell V K c (pr c) (rk j)); iexact HC
    isplitl [Hs]; · iexact Hs
    isplitl [Hd]; · iexact Hd
    isplitl [HO]; · iexact HO
    isplitl [Ht]; · iexact Ht
    isplitr; · iapply (ctx_reached V K c k); iexact HC
    isplitl [Ht']; · iexact Ht'
    iapply (ready_reached c j); iexact HR
  iintro ⟨Hc, HO⟩
  iapply Hk
  isplitl [Hc Hat]
  · isplitl [Hc]; · iexact Hc
    iexact Hat
  iexists W; iexact HO

/-- A load through a rectangle of a buffer held in full. -/
theorem load_step {α : Type} {Q : α → sProp 𝕄} {cs : CoreSpace} {sh : Shape} {e : EltTy} (M : Memref sig .tc cs sh e) (r : Rect sh) {hl : M.view.LoadsAt r.toLoadRect}
    (f : Buf (Elt F) (M.view.loc (c : Thread nD τ))) (v : r.shape.Idx → Elt F e) (hv : M.view.readAt (Elt F) r.toLoadRect f = v)
    {kk : (r.shape.Idx → Elt F e) → Prog (TpuEff nD τ sig (Elt F) Λ₀ .tc) α} :
    has c M f ⊢ iprop((has c M f -∗ run c (kk v) Q) -∗ run c (.op (.load M r.toLoadRect hl) kk) Q) := by
  subst hv
  exact wp_load 𝒱₀ (c : Thread nD τ) none Set.univ (by
    intro i hi
    obtain ⟨x, -, rfl⟩ := Finset.mem_map.mp hi
    exact M.view.emb_mem_set x)

/-- A load through a rectangle of which just that rectangle is held. -/
theorem load_band {α : Type} {Q : α → sProp 𝕄} {cs : CoreSpace} {sh : Shape} {e : EltTy} (M : Memref sig .tc cs sh e) (r : Rect sh) {hr : ∀ a, r.stride a = 1}
    {hl : M.view.LoadsAt r.toLoadRect}
    (f : Buf (Elt F) (M.view.loc (c : Thread nD τ))) (v : r.shape.Idx → Elt F e) (hv : M.view.readAt (Elt F) r.toLoadRect f = v)
    {kk : (r.shape.Idx → Elt F e) → Prog (TpuEff nD τ sig (Elt F) Λ₀ .tc) α} :
    has c (M.slice r hr) f ⊢ iprop((has c (M.slice r hr) f -∗ run c (kk v) Q)
      -∗ run c (.op (.load M r.toLoadRect hl) kk) Q) := by
  subst hv
  exact wp_load_rect 𝒱₀ (c : Thread nD τ) none Set.univ (fun _ h => h)

/-- A store through a rectangle of a buffer held in full. -/
theorem store_step {α : Type} {Q : α → sProp 𝕄} {cs : CoreSpace} {sh : Shape} {e : EltTy} (M : Memref sig .tc cs sh e) (r : Rect sh) {w : r.shape.Idx → Elt F e}
    {hx : (M.access r).Stores Finset.univ} {hm : (Finset.univ : Finset r.shape.Idx) = Finset.univ ∨ ∀ a, r.stride a = 1}
    (f g : Buf (Elt F) (M.view.loc (c : Thread nD τ))) (hg : (M.access r).write (Elt F) f w Finset.univ = g)
    {kk : PUnit → Prog (TpuEff nD τ sig (Elt F) Λ₀ .tc) α} :
    has c M f ⊢ iprop((has c M g -∗ run c (kk ⟨⟩) Q)
      -∗ run c (.op (.store M r w Finset.univ hx hm) kk) Q) := by
  subst hg
  iintro H Hk
  iapply (wp_store 𝒱₀ (c : Thread nD τ) none Set.univ (S := M.view.set) (f := f) (fun _ h => View.set_slice_subset M.view r h)) $$ H
  iintro H
  iapply Hk
  iexact H

/-- A store through a rectangle of which just that rectangle is held. -/
theorem store_band {α : Type} {Q : α → sProp 𝕄} {cs : CoreSpace} {sh : Shape} {e : EltTy} (M : Memref sig .tc cs sh e) (r : Rect sh) {hr : ∀ a, r.stride a = 1}
    {w : r.shape.Idx → Elt F e}
    {hx : (M.access r).Stores Finset.univ} {hm : (Finset.univ : Finset r.shape.Idx) = Finset.univ ∨ ∀ a, r.stride a = 1}
    (f g g' : Buf (Elt F) (M.view.loc (c : Thread nD τ))) (hg : (M.slice r hr).view.write (Elt F) g w Finset.univ = g')
    {kk : PUnit → Prog (TpuEff nD τ sig (Elt F) Λ₀ .tc) α} :
    has c (M.slice r hr) f ⊢ iprop((has c (M.slice r hr) g' -∗ run c (kk ⟨⟩) Q)
      -∗ run c (.op (.store M r w Finset.univ hx hm) kk) Q) := by
  subst hg
  iintro H Hk
  iapply (wp_store 𝒱₀ (c : Thread nD τ) none Set.univ (S := (M.access r).set) (f := f) (fun _ h => h)) $$ H
  iintro H
  iapply Hk
  iapply (Entails.of_eq (pointsTo_congr fun i hi => by
    obtain ⟨x, -, rfl⟩ := Finset.mem_map.mp hi
    rw [View.write_emb_of_mem _ _ (Finset.mem_univ x)]
    exact (View.write_emb_of_mem (v := (M.slice r hr).view) _ _ (Finset.mem_univ x)).symm)) $$ H

/-! ## The bands of a buffer -/

/-- Every place of a buffer of 512 rows lies in one of its four bands. -/
theorem band_cover (i : S512x512.Idx) : ∃ k, i ∈ (band k).set := by
  have h0 : (i 0).val < 512 := (i 0).isLt
  have h1 : (i 1).val < 512 := (i 1).isLt
  rcases (by omega : (i 0).val < 128 ∨ 128 ≤ (i 0).val ∧ (i 0).val < 256 ∨ 256 ≤ (i 0).val ∧ (i 0).val < 384 ∨ 384 ≤ (i 0).val) with h | h | h | h
  · exact ⟨0, Rect.mem_set_unit.mpr fun a => by fin_cases a <;> simp [S128x512] <;> omega⟩
  · exact ⟨1, Rect.mem_set_unit.mpr fun a => by fin_cases a <;> simp [S128x512] <;> omega⟩
  · exact ⟨2, Rect.mem_set_unit.mpr fun a => by fin_cases a <;> simp [S128x512] <;> omega⟩
  · exact ⟨3, Rect.mem_set_unit.mpr fun a => by fin_cases a <;> simp [S128x512] <;> omega⟩

/-- Two different bands share no place. -/
theorem band_disjoint : ∀ k l : Fin 4, k ≠ l → Disjoint (band k).set (band l).set := by
  intro k l h
  fin_cases k <;> fin_cases l <;> first
    | exact absurd rfl h
    | exact Rect.unit_disjoint 0 (by decide)

/-- A buffer of 512 rows held in full is its four bands. -/
theorem has_bands {e : EltTy} (M : Memref sig .tc .vmem S512x512 e) (f : Buf (Elt F) (M.view.loc (c : Thread nD τ))) :
    has c M f = bigSep (Finset.univ : Finset (Fin 4)) fun k => (M.view.loc (c : Thread nD τ) ↦[(M.view.slice (band k)).set]{fullShare} f : sProp 𝕄) := by
  have hset : M.view.set = (Finset.univ : Finset (Fin 4)).biUnion fun k => (M.view.slice (band k)).set := by
    ext i; constructor
    · intro hi
      obtain ⟨x, -, rfl⟩ := Finset.mem_map.mp hi
      obtain ⟨k, hk⟩ := band_cover x
      exact Finset.mem_biUnion.mpr ⟨k, Finset.mem_univ _, by rw [View.set_slice]; exact Finset.mem_map_of_mem _ hk⟩
    · intro hi
      obtain ⟨k, -, hi⟩ := Finset.mem_biUnion.mp hi
      exact View.set_slice_subset _ _ hi
  show (M.view.loc (c : Thread nD τ) ↦[M.view.set]{fullShare} f : sProp 𝕄) = _
  rw [hset]
  exact pointsTo_biUnion _ _ fun k _ l _ h => by
    rw [View.set_slice, View.set_slice]; exact (Finset.disjoint_map _).mpr (band_disjoint k l h)

/-- The same, the bands one by one. -/
theorem has_bands4 {e : EltTy} (M : Memref sig .tc .vmem S512x512 e) (f : Buf (Elt F) (M.view.loc (c : Thread nD τ))) :
    has c M f = iprop(has c (chunk M 0) f ∗ has c (chunk M 1) f ∗ has c (chunk M 2) f ∗ has c (chunk M 3) f) := by
  rw [has_bands, bigSep_eq_bigSepL_of_eq [0, 1, 2, 3] (by decide) (by decide)]
  rfl

/-- A buffer of 512 rows comes apart into its bands. -/
theorem split4 {e : EltTy} (M : Memref sig .tc .vmem S512x512 e) (f : Buf (Elt F) (M.view.loc (c : Thread nD τ))) :
    has c M f ⊢ iprop(has c (chunk M 0) f ∗ has c (chunk M 1) f ∗ has c (chunk M 2) f ∗ has c (chunk M 3) f) :=
  Entails.of_eq (has_bands4 c M f)

/-- The four bands, whatever each holds, make up the buffer. -/
theorem join4 {e : EltTy} (M : Memref sig .tc .vmem S512x512 e) (f0 f1 f2 f3 : Buf (Elt F) (M.view.loc (c : Thread nD τ))) :
    iprop(has c (chunk M 0) f0 ∗ has c (chunk M 1) f1 ∗ has c (chunk M 2) f2 ∗ has c (chunk M 3) f3) ⊢ iprop(∃ f, has c M f) := by
  have hd : ∀ k l : Fin 4, k ≠ l → Disjoint (M.view.slice (band k)).set (M.view.slice (band l)).set := fun k l h => by
    rw [View.set_slice, View.set_slice]; exact (Finset.disjoint_map _).mpr (band_disjoint k l h)
  let g : Buf (Elt F) (M.view.loc (c : Thread nD τ)) :=
    (M.view.slice (band 0)).set.piecewise f0 ((M.view.slice (band 1)).set.piecewise f1 ((M.view.slice (band 2)).set.piecewise f2 f3))
  have e0 : ∀ i ∈ (M.view.slice (band 0)).set, f0 i = g i := fun i hi => (Finset.piecewise_eq_of_mem _ _ _ hi).symm
  have e1 : ∀ i ∈ (M.view.slice (band 1)).set, f1 i = g i := fun i hi => by
    dsimp only [g]
    rw [Finset.piecewise_eq_of_notMem _ _ _ (Finset.disjoint_left.mp (hd 1 0 (by decide)) hi), Finset.piecewise_eq_of_mem _ _ _ hi]
  have e2 : ∀ i ∈ (M.view.slice (band 2)).set, f2 i = g i := fun i hi => by
    dsimp only [g]
    rw [Finset.piecewise_eq_of_notMem _ _ _ (Finset.disjoint_left.mp (hd 2 0 (by decide)) hi),
      Finset.piecewise_eq_of_notMem _ _ _ (Finset.disjoint_left.mp (hd 2 1 (by decide)) hi), Finset.piecewise_eq_of_mem _ _ _ hi]
  have e3 : ∀ i ∈ (M.view.slice (band 3)).set, f3 i = g i := fun i hi => by
    dsimp only [g]
    rw [Finset.piecewise_eq_of_notMem _ _ _ (Finset.disjoint_left.mp (hd 3 0 (by decide)) hi),
      Finset.piecewise_eq_of_notMem _ _ _ (Finset.disjoint_left.mp (hd 3 1 (by decide)) hi),
      Finset.piecewise_eq_of_notMem _ _ _ (Finset.disjoint_left.mp (hd 3 2 (by decide)) hi)]
  refine BIBase.Entails.trans (Q := iprop(has c (chunk M 0) g ∗ has c (chunk M 1) g ∗ has c (chunk M 2) g ∗ has c (chunk M 3) g)) ?_ ?_
  rotate_left
  · iintro H
    iexists g
    iapply (Entails.of_eq (has_bands4 c M g).symm) $$ H
  iintro ⟨H0, H1, H2, H3⟩
  isplitl [H0]; · iapply (Entails.of_eq (pointsTo_congr e0)) $$ H0
  isplitl [H1]; · iapply (Entails.of_eq (pointsTo_congr e1)) $$ H1
  isplitl [H2]; · iapply (Entails.of_eq (pointsTo_congr e2)) $$ H2
  iapply (Entails.of_eq (pointsTo_congr e3)) $$ H3

end Cert.KernelIdeal.Talk

end
-- ==== Proof.Ideal.PartA.lean ====
/-
  The first half of the kernel's run: the copies in, the handshake with the partner, and what is sent to it first.
-/
module

public import proofs.«01_k».proof.Proof.Ideal.Steps

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-! ## A store of a whole block -/

theorem full_emb (j : S512x512.Idx) : (Rect.unit (s := S512x512) ![0, 0] S512x512.size inb_S512x512_S512x512_0_0).emb j = j := by
  funext a
  refine Fin.ext ?_
  fin_cases a <;> exact (Nat.zero_add _).trans (Nat.one_mul _)

/-- After a store of the whole block, what the block held before does not count. -/
theorem full_store {e : EltTy} (M : Memref sig .tc .vmem S512x512 e) (f g : Buf (Elt F) (M.view.loc (c : Thread nD τ)))
    (w : S512x512.Idx → Elt F e) :
    has c M ((M.access (Rect.unit (s := S512x512) ![0, 0] S512x512.size inb_S512x512_S512x512_0_0)).write (Elt F) f w Finset.univ)
      = has c M ((M.access (Rect.unit (s := S512x512) ![0, 0] S512x512.size inb_S512x512_S512x512_0_0)).write (Elt F) g w Finset.univ) :=
  pointsTo_congr fun i hi => by
    obtain ⟨x, -, rfl⟩ := Finset.mem_map.mp hi
    have hx : M.view.emb x = (M.access (Rect.unit (s := S512x512) ![0, 0] S512x512.size inb_S512x512_S512x512_0_0)).emb x :=
      congrArg M.view.emb (full_emb x).symm
    rw [hx, View.write_emb_of_mem _ _ (Finset.mem_univ x), View.write_emb_of_mem _ _ (Finset.mem_univ x)]

/-- The send buffer of rows, once filled, is the rows in the narrow format. -/
theorem xsd_store (f w : S512x512.Idx → Elt F .bf16) :
    has c xsdM ((xsdM.access (Rect.unit (s := S512x512) ![0, 0] S512x512.size inb_S512x512_S512x512_0_0)).write (Elt F) f w Finset.univ)
      = has c xsdM w := by
  rw [full_store c xsdM f w w]
  exact pointsTo_congr fun i hi => by
    have hx : i = (xsdM.access (Rect.unit (s := S512x512) ![0, 0] S512x512.size inb_S512x512_S512x512_0_0)).emb i := (full_emb i).symm
    conv_lhs => rw [hx]
    exact View.write_emb_of_mem (v := xsdM.access (Rect.unit (s := S512x512) ![0, 0] S512x512.size inb_S512x512_S512x512_0_0)) w w (Finset.mem_univ i)

/-! ## The handshake -/

/-- What a device needs for the handshake at the barrier. -/
def hand (c : Dev nD) : sProp 𝕄 :=
  iprop(dutyTok ER (barCell (pr c)) 0 () ∗ reached ER (barCell (pr c)) 0 ∗ cred (tallyAt (barCell c) () 1) ∗ atPos ER (barCell c) 0 ∅ 0)
/-- What a device gives its partner at the handshake: the buffers the partner writes to. -/
def gift (c : Dev nD) : sProp 𝕄 := iprop((∃ f, has c xrM f) ∗ (∃ f, has c mrM f) ∗ (∃ f, has c prcM f))

/-- A device's own readiness is what its partner is told. -/
theorem ctx_told : ctx V K c ⊢ bigSep (Finset.univ : Finset (Fin 9)) fun k => (reached ER (cell c (rk k)) 0 : sProp 𝕄) := by
  exact bigSep_intro_persistent fun k _ => ctx_reached V K c (rk k)

theorem signal_step {α : Type} {Q : α → sProp 𝕄} {d : Dev nD} (hd : d = pr c) {kk : PUnit → Prog (TpuEff nD τ sig (Elt F) Λ₀ .tc) α} :
    iprop(ctx V K c ∗ gift c ∗ owing c 10 ∗ dutyTok ER (barCell (pr c)) 0 () ∗ reached ER (barCell (pr c)) 0)
      ⊢ iprop((owing c 9 -∗ run c (kk ⟨⟩) Q) -∗ run c (.op (.semSignal (d, .tc) barS (1#32).toInt) kk) Q) := by
  subst hd
  unfold owing gift
  iintro ⟨#HC, ⟨Hx, Hm, Hp⟩, ⟨%W, HO⟩, Ht, #Hr⟩ Hk
  iapply (Rounds.wp_signal 𝒱₀ ER (Rd V) (c : Thread nD τ) none (dst := (pr c : Thread nD τ)) (sem := barS) (r := 0) (d := ()) (k' := 1)
      (κ := K (barCell (pr c))) (duties_mem V (pr c) _) (amount_bar V (pr c)) () (due c 9) (O₀ := due c 10) rfl) $$ [HO Ht Hx Hm Hp]
  · isplitr; · iapply (ctx_bar V K c (pr c)); iexact HC
    isplitl [HO]; · iexact HO
    isplitl [Ht]; · iexact Ht
    isplitl [Hx Hm Hp]
    · rw [payload_bar]; unfold barPay; rw [pr_pr]
      isplitl [Hx]; · iexact Hx
      isplitl [Hm]; · iexact Hm
      isplitl [Hp]; · iexact Hp
      iapply (ctx_told V K c); iexact HC
    iexact Hr
  iintro HO
  iapply Hk
  iexists W; iexact HO

theorem barrier_step {α : Type} {Q : α → sProp 𝕄} {kk : PUnit → Prog (TpuEff nD τ sig (Elt F) Λ₀ .tc) α} :
    iprop(ctx V K c ∗ owing c 9 ∗ cred (tallyAt (barCell c) () 1) ∗ atPos ER (barCell c) 0 ∅ 0)
      ⊢ iprop(((owing c 9 ∗ atPos ER (barCell c) 1 ∅ 0 ∗ gift (pr c) ∗ ready c) -∗ run c (kk ⟨⟩) Q)
        -∗ run c (.op (.semWait barS (1#32).toInt) kk) Q) := by
  unfold owing gift
  iintro ⟨#HC, ⟨%W, HO⟩, Hc, Hat⟩ Hk
  iapply (Rounds.wp_wait_rest_token 𝒱₀ ER (Rd V) (c : Thread nD τ) none (κ := K (barCell c)) (sm := .reg barS) (k' := 1)
      (wpE_semWait_eq 𝒱₀ (c : Thread nD τ) none Set.univ) (Set.mem_univ _) () (O := due c 9) (W := W) (R := 0) (m := 0) (T := ∅)
      ((Nat.zero_add _).trans (expect_tc V c (.reg barS)).symm)) $$ [Hc HO Hat]
  · isplitr; · iapply (ctx_bar V K c c); iexact HC
    isplitl [Hc]; · iexact Hc
    isplitl [HO]; · iexact HO
    isplitr; · iapply (ctx_mayWait V K c (.reg barS) 9 (by decide)); iexact HC
    iexact Hat
  iintro ⟨HO, Hat, -, Hpay⟩
  ihave Hp := (Entails.of_eq (rest_tc V c (.reg barS))) $$ Hpay
  ihave Hp := (show pay V c (.reg barS) ⊢ iprop(((∃ f, has (pr c) xrM f) ∗ (∃ f, has (pr c) mrM f) ∗ (∃ f, has (pr c) prcM f)) ∗ ready c) from by
    show barPay c ⊢ _
    unfold barPay ready
    iintro ⟨Hx, Hm, Hp, Hr⟩
    isplitl [Hx Hm Hp]
    · isplitl [Hx]; · iexact Hx
      isplitl [Hm]; · iexact Hm
      iexact Hp
    iexact Hr) $$ Hp
  icases Hp with ⟨Hg, Hr⟩
  iapply Hk
  isplitl [HO]; · iexists _; iexact HO
  isplitl [Hat]; · iexact Hat
  isplitl [Hg]; · iexact Hg
  iexact Hr

/-! ## The copies in, and the rows to send -/

/-- What a copy in needs: the source, the room, the right to pay the cell and its position. -/
def inn (c : Dev nD) (k : Fin 21) {sp sp' : Space} {sh : Shape} {e : EltTy} (src : Memref sig .tc sp sh e) (dst : Memref sig .tc sp' sh e)
    (f : Buf (Elt F) (src.view.loc (c : Thread nD τ))) : sProp 𝕄 :=
  iprop(has c src f ∗ (∃ g, has c dst g) ∗ tok c k ∗ atPos ER (cell c k) 0 ∅ 0)

theorem part1 {Q : (Σ' (_ : Dev nD) (_ : BitVec 32) (_ : BitVec 32), BitVec 32) → sProp 𝕄} :
    iprop((ctx V K c ∗ owing c 10 ∗ inn c 2 xH xM (V c main_arg0) ∗ inn c 0 w1H w1M (V c main_arg2) ∗ inn c 1 w2H w2M (V c main_arg3)
        ∗ (∃ f, has c xsdM f) ∗ hand c ∗ gift c)
      ∗ ((owing c 9 ∗ right c 0 ∗ right c 1 ∗ past c 2 ∗ has c xM (V c main_arg0) ∗ has c xH (V c main_arg0) ∗ has c xsdM (xb V c)
        ∗ atPos ER (barCell c) 1 ∅ 0 ∗ gift (pr c) ∗ ready c)
        -∗ Q ⟨c, Scalar.remsi (Scalar.divsi (Dev.word c) 4#32) 2#32, Scalar.remsi (Scalar.divsi (Dev.word c) 1#32) 4#32,
          Scalar.subi 1#32 (Scalar.remsi (Scalar.divsi (Dev.word c) 8#32) 2#32)⟩))
      ⊢ run c (k0_part1 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Q := by
  simp only [k0_part1_eq_skeleton]; unfold k0_part1_skel
  simp only [run, semSignalWord, semWaitWord, Prog.lift, Prog.bind_op, Prog.bind_ret, Prog.pure_eq_ret, Prog.bind_assoc, wp_deviceId]
  unfold inn hand
  iintro ⟨⟨#HC, HO, ⟨Hx, ⟨%fx, HX⟩, Htx, Hax⟩, ⟨Hu, ⟨%fu, HU⟩, Htu, Hau⟩, ⟨Hv, ⟨%fv, HV⟩, Htv, Hav⟩, ⟨%fs, HS⟩, ⟨Htb, #Hrb, Hcb, Hab⟩, Hg⟩, Hk⟩
  iapply (copy_step V K c 2 rfl (src := xH) (dst := xM) rfl (V c main_arg0) fx (V c main_arg0) rfl .rfl) $$ [Hx HX Htx Hax]
  · isplitr; · iexact HC
    isplitl [Hx]; · iexact Hx
    isplitl [HX]; · iexact HX
    isplitl [Htx]; · iexact Htx
    iexact Hax
  iintro Hr2
  iapply (copy_step V K c 0 rfl (src := w1H) (dst := w1M) rfl (V c main_arg2) fu (V c main_arg2) rfl .rfl) $$ [Hu HU Htu Hau]
  · isplitr; · iexact HC
    isplitl [Hu]; · iexact Hu
    isplitl [HU]; · iexact HU
    isplitl [Htu]; · iexact Htu
    iexact Hau
  iintro Hr0
  iapply (copy_step V K c 1 rfl (src := w2H) (dst := w2M) rfl (V c main_arg3) fv (V c main_arg3) rfl .rfl) $$ [Hv HV Htv Hav]
  · isplitr; · iexact HC
    isplitl [Hv]; · iexact Hv
    isplitl [HV]; · iexact HV
    isplitl [Htv]; · iexact Htv
    iexact Hav
  iintro Hr1
  iapply (wait_step V K c 2 10 (by decide) iprop(has c xM (V c main_arg0) ∗ has c xH (V c main_arg0)) rfl rfl rfl) $$ [Hr2 HO]
  · isplitr; · iexact HC
    isplitl [Hr2]; · iexact Hr2
    iexact HO
  iintro ⟨HO, Hp2, ⟨HX, Hx⟩⟩
  iapply (load_step c xM _ _ (xv V c) rfl) $$ HX; iintro HX
  iapply (load_step c xsdM _ _ _ rfl) $$ HS; iintro HS
  iapply (store_step c xsdM _ _ _ rfl) $$ HS; iintro HS
  iapply (signal_step V K c (dev1_eq c)) $$ [Hg HO Htb]
  · isplitr; · iexact HC
    isplitl [Hg]; · iexact Hg
    isplitl [HO]; · iexact HO
    isplitl [Htb]; · iexact Htb
    iexact Hrb
  iintro HO
  iapply (barrier_step V K c) $$ [HO Hcb Hab]
  · isplitr; · iexact HC
    isplitl [HO]; · iexact HO
    isplitl [Hcb]; · iexact Hcb
    iexact Hab
  iintro ⟨HO, Hab, Hg, #HR⟩
  iapply (ret_step c _)
  iapply Hk
  isplitl [HO]; · iexact HO
  isplitl [Hr0]; · iexact Hr0
  isplitl [Hr1]; · iexact Hr1
  isplitl [Hp2]; · iexact Hp2
  isplitl [HX]; · iexact HX
  isplitl [Hx]; · iexact Hx
  isplitl [HS]; · iapply (Entails.of_eq (xsd_store c fs (xb V c))); iexact HS
  isplitl [Hab]; · iexact Hab
  isplitl [Hg]; · iexact Hg
  iexact HR

end Cert.KernelIdeal.Talk

end
-- ==== Proof.Ideal.PartB.lean ====
/-
  The kernel's run: the rows and the mask go out to the partner, and the weights come in.
-/
module

public import proofs.«01_k».proof.Proof.Ideal.PartA

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-- The mask and the first band of rows go out. -/
theorem part2 (v5 v8 v9 : BitVec 32) {Q : PUnit → sProp 𝕄} :
    iprop((ctx V K c ∗ ready c ∗ owing c 9 ∗ has c mnM (V c main_v24) ∗ (∃ f, has (pr c) mrM f) ∗ gear c 11 8
        ∗ has c (chunk xsdM 0) (xb V c) ∗ (∃ f, has (pr c) (chunk xrM 0) f) ∗ gear c 3 0)
      ∗ ((owing c 7 ∗ right c 11 ∗ right c 3) -∗ Q ⟨⟩))
      ⊢ run c (k0_part2 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v8 v9) Q := by
  simp only [k0_part2_eq_skeleton]; unfold k0_part2_skel
  simp only [run, semSignalWord, semWaitWord, Prog.lift, Prog.bind_op, Prog.bind_ret, Prog.pure_eq_ret, Prog.bind_assoc, wp_deviceId]
  iintro ⟨⟨#HC, #HR, HO, Hm, ⟨%fm, HM⟩, Hgm, Hs0, ⟨%f0, HX0⟩, Hg0⟩, Hk⟩
  iapply (send_step V K c 11 8 8 rfl (dev2_eq c) rfl rfl (src := mnM) (dst := mrM) rfl rfl (V c main_v24) fm .rfl (V (pr (pr c)) main_v24)
      (by rw [pr_pr]; rfl) .rfl) $$ [Hm HM HO Hgm]
  · isplitr; · iexact HC
    isplitr; · iexact HR
    isplitl [Hm]; · iexact Hm
    isplitl [HM]; · iexact HM
    isplitl [HO]; · iexact HO
    iexact Hgm
  iintro ⟨Hr11, HO⟩
  iapply (send_step V K c 3 0 7 rfl (dev3_eq c) rfl rfl (src := chunk xsdM 0) (dst := chunk xrM 0) rfl rfl (xb V c) f0 .rfl (xb V (pr (pr c)))
      (by rw [pr_pr]; rfl) .rfl) $$ [Hs0 HX0 HO Hg0]
  · isplitr; · iexact HC
    isplitr; · iexact HR
    isplitl [Hs0]; · iexact Hs0
    isplitl [HX0]; · iexact HX0
    isplitl [HO]; · iexact HO
    iexact Hg0
  iintro ⟨Hr3, HO⟩
  iapply (ret_step c _)
  iapply Hk
  isplitl [HO]; · iexact HO
  isplitl [Hr11]; · iexact Hr11
  iexact Hr3

/-- The other three bands of rows go out, and the weights are there. -/
theorem part3 (v5 v8 v9 : BitVec 32) {Q : BitVec 32 → sProp 𝕄} :
    iprop((ctx V K c ∗ ready c ∗ owing c 7 ∗ has c (chunk xsdM 1) (xb V c) ∗ (∃ f, has (pr c) (chunk xrM 1) f) ∗ gear c 4 1
        ∗ has c (chunk xsdM 2) (xb V c) ∗ (∃ f, has (pr c) (chunk xrM 2) f) ∗ gear c 5 2
        ∗ has c (chunk xsdM 3) (xb V c) ∗ (∃ f, has (pr c) (chunk xrM 3) f) ∗ gear c 6 3 ∗ right c 0 ∗ right c 1)
      ∗ ((owing c 4 ∗ right c 4 ∗ right c 5 ∗ right c 6 ∗ past c 0 ∗ past c 1 ∗ has c w1M (V c main_arg2) ∗ has c w1H (V c main_arg2)
        ∗ has c w2M (V c main_arg3) ∗ has c w2H (V c main_arg3)) -∗ Q 8#32))
      ⊢ run c (k0_part3 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v8 v9) Q := by
  simp only [k0_part3_eq_skeleton]; unfold k0_part3_skel
  simp only [run, semSignalWord, semWaitWord, Prog.lift, Prog.bind_op, Prog.bind_ret, Prog.pure_eq_ret, Prog.bind_assoc, wp_deviceId]
  iintro ⟨⟨#HC, #HR, HO, Hs1, ⟨%f1, HX1⟩, Hg1, Hs2, ⟨%f2, HX2⟩, Hg2, Hs3, ⟨%f3, HX3⟩, Hg3, Hr0, Hr1⟩, Hk⟩
  iapply (send_step V K c 4 1 6 rfl (dev4_eq c) rfl rfl (src := chunk xsdM 1) (dst := chunk xrM 1) rfl rfl (xb V c) f1 .rfl (xb V (pr (pr c)))
      (by rw [pr_pr]; rfl) .rfl) $$ [Hs1 HX1 HO Hg1]
  · isplitr; · iexact HC
    isplitr; · iexact HR
    isplitl [Hs1]; · iexact Hs1
    isplitl [HX1]; · iexact HX1
    isplitl [HO]; · iexact HO
    iexact Hg1
  iintro ⟨Hr4, HO⟩
  iapply (send_step V K c 5 2 5 rfl (dev5_eq c) rfl rfl (src := chunk xsdM 2) (dst := chunk xrM 2) rfl rfl (xb V c) f2 .rfl (xb V (pr (pr c)))
      (by rw [pr_pr]; rfl) .rfl) $$ [Hs2 HX2 HO Hg2]
  · isplitr; · iexact HC
    isplitr; · iexact HR
    isplitl [Hs2]; · iexact Hs2
    isplitl [HX2]; · iexact HX2
    isplitl [HO]; · iexact HO
    iexact Hg2
  iintro ⟨Hr5, HO⟩
  iapply (send_step V K c 6 3 4 rfl (dev6_eq c) rfl rfl (src := chunk xsdM 3) (dst := chunk xrM 3) rfl rfl (xb V c) f3 .rfl (xb V (pr (pr c)))
      (by rw [pr_pr]; rfl) .rfl) $$ [Hs3 HX3 HO Hg3]
  · isplitr; · iexact HC
    isplitr; · iexact HR
    isplitl [Hs3]; · iexact Hs3
    isplitl [HX3]; · iexact HX3
    isplitl [HO]; · iexact HO
    iexact Hg3
  iintro ⟨Hr6, HO⟩
  iapply (wait_step V K c 0 4 (by decide) iprop(has c w1M (V c main_arg2) ∗ has c w1H (V c main_arg2)) rfl rfl rfl) $$ [Hr0 HO]
  · isplitr; · iexact HC
    isplitl [Hr0]; · iexact Hr0
    iexact HO
  iintro ⟨HO, Hp0, ⟨HU, Hu⟩⟩
  iapply (wait_step V K c 1 4 (by decide) iprop(has c w2M (V c main_arg3) ∗ has c w2H (V c main_arg3)) rfl rfl rfl) $$ [Hr1 HO]
  · isplitr; · iexact HC
    isplitl [Hr1]; · iexact Hr1
    iexact HO
  iintro ⟨HO, Hp1, ⟨HV, Hv⟩⟩
  iapply (ret_step c _)
  iapply Hk
  isplitl [HO]; · iexact HO
  isplitl [Hr4]; · iexact Hr4
  isplitl [Hr5]; · iexact Hr5
  isplitl [Hr6]; · iexact Hr6
  isplitl [Hp0]; · iexact Hp0
  isplitl [Hp1]; · iexact Hp1
  isplitl [HU]; · iexact HU
  isplitl [Hu]; · iexact Hu
  isplitl [HV]; · iexact HV
  iexact Hv

end Cert.KernelIdeal.Talk

end
-- ==== Proof.Ideal.PartC.lean ====
/-
  The kernel's run: for each band of the partner's rows, the result the device's two matrices give, sent back at once.
-/
module

public import proofs.«01_k».proof.Proof.Ideal.PartB

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-- What a device needs to compute on its partner's rows besides the rows: the mask it received and its matrices. -/
def mats (c : Dev nD) : sProp 𝕄 := iprop(has c mrM (V (pr c) main_v24) ∗ has c w1M (V c main_arg2) ∗ has c w2M (V c main_arg3))
/-- The same without the mask. -/
def wts (c : Dev nD) : sProp 𝕄 := iprop(has c w1M (V c main_arg2) ∗ has c w2M (V c main_arg3))

/-- The mask and the first band have come in; the first product of the first band. -/
theorem part4 (v5 v8 v9 : BitVec 32) (w : BitVec 32) {Q : (Σ' (_ : FVec F S128x512 .f32) (_ : FVec F S128x2 .f32) (_ : FVec F S128x512 .f32) (_ : FVec F S128x1024 .f32), Vec F S1x1024x512 .f32) → sProp 𝕄} :
    iprop((ctx V K c ∗ owing c 4 ∗ right c 20 ∗ right c 12 ∗ wts V c)
      ∗ ((owing c 4 ∗ past c 20 ∗ past c 12 ∗ has c (chunk xrM 0) (xb V (pr c)) ∗ mats V c) -∗ Q ⟨k0_pay2 (xw V c 0), k0_pay3 (mw V c 0), k0_pay4 (F := F), k0_pay5 (xw V c 0) (mw V c 0) (wa0 V c), wb0 V c⟩))
      ⊢ run c (k0_part4 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v5 v8 v9 w) Q := by
  simp only [k0_part4_eq_skeleton]; unfold k0_part4_skel
  simp only [run, semSignalWord, semWaitWord, Prog.lift, Prog.bind_op, Prog.bind_ret, Prog.pure_eq_ret, Prog.bind_assoc, wp_deviceId]
  unfold mats wts
  iintro ⟨⟨#HC, HO, Hr20, Hr12, HU, HV⟩, Hk⟩
  iapply (wait_step V K c 20 4 (by decide) (has c mrM (V (pr c) main_v24)) rfl rfl (dst := mrM) rfl) $$ [Hr20 HO]
  · isplitr; · iexact HC
    isplitl [Hr20]; · iexact Hr20
    iexact HO
  iintro ⟨HO, Hp20, HM⟩
  iapply (wait_step V K c 12 4 (by decide) (has c (chunk xrM 0) (xb V (pr c))) rfl rfl (dst := chunk xrM 0) rfl) $$ [Hr12 HO]
  · isplitr; · iexact HC
    isplitl [Hr12]; · iexact Hr12
    iexact HO
  iintro ⟨HO, Hp12, HX⟩
  iapply (load_band c xrM (Rect.unit (s := S512x512) ![0, 0] S128x512.size inb_S512x512_S128x512_0_0) (hr := fun _ => rfl) _ (xw V c 0) rfl) $$ HX; iintro HX
  iapply (load_step c mrM (Rect.unit (s := S512x2) ![0, 0] S128x2.size inb_S512x2_S128x2_0_0) _ (mw V c 0) rfl) $$ HM; iintro HM
  iapply (load_step c w1M (Rect.unit (s := S2x512x1024) ![0, 0, 0] S1x512x1024.size inb_S2x512x1024_S1x512x1024_0_0_0) _ (wa0 V c) rfl) $$ HU; iintro HU
  iapply (load_step c w2M (Rect.unit (s := S2x1024x512) ![0, 0, 0] S1x1024x512.size inb_S2x1024x512_S1x1024x512_0_0_0) _ (wb0 V c) rfl) $$ HV; iintro HV
  iapply (ret_step c _)
  iapply Hk
  isplitl [HO]; · iexact HO
  isplitl [Hp20]; · iexact Hp20
  isplitl [Hp12]; · iexact Hp12
  isplitl [HX]; · iexact HX
  isplitl [HM]; · iexact HM
  isplitl [HU]; · iexact HU
  iexact HV

/-- The first band's result, stored and sent back. -/
theorem part5 (v5 v8 v9 : BitVec 32) {Q : (Σ' (_ : BitVec 32), BitVec 32) → sProp 𝕄} :
    iprop((ctx V K c ∗ ready c ∗ owing c 4 ∗ mats V c ∗ (∃ f, has c (chunk psdM 0) f) ∗ (∃ f, has (pr c) (chunk prcM 0) f) ∗ gear c 7 4)
      ∗ ((owing c 3 ∗ right c 7 ∗ mats V c) -∗ Q ⟨Scalar.muli v9 8#32, 0#32⟩))
      ⊢ run c (k0_part5 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v8 v9 (k0_pay2 (xw V c 0)) (k0_pay3 (mw V c 0)) (k0_pay4 (F := F)) (k0_pay5 (xw V c 0) (mw V c 0) (wa0 V c)) (wb0 V c)) Q := by
  simp only [k0_part5_eq_skeleton]; unfold k0_part5_skel
  simp only [run, semSignalWord, semWaitWord, Prog.lift, Prog.bind_op, Prog.bind_ret, Prog.pure_eq_ret, Prog.bind_assoc, wp_deviceId]
  unfold mats
  iintro ⟨⟨#HC, #HR, HO, ⟨HM, HU, HV⟩, ⟨%fs, HS⟩, ⟨%fd, HD⟩, Hg⟩, Hk⟩
  iapply (load_step c w1M (Rect.unit (s := S2x512x1024) ![1, 0, 0] S1x512x1024.size inb_S2x512x1024_S1x512x1024_1_0_0) _ (wa1 V c) rfl) $$ HU; iintro HU
  iapply (load_step c w2M (Rect.unit (s := S2x1024x512) ![1, 0, 0] S1x1024x512.size inb_S2x1024x512_S1x1024x512_1_0_0) _ (wb1 V c) rfl) $$ HV; iintro HV
  iapply (load_band c psdM (Rect.unit (s := S512x512) ![0, 0] S128x512.size inb_S512x512_S128x512_0_0) (hr := fun _ => rfl) _ _ rfl) $$ HS; iintro HS
  iapply (store_band c psdM (Rect.unit (s := S512x512) ![0, 0] S128x512.size inb_S512x512_S128x512_0_0) (hr := fun _ => rfl) fs (xb V c) (psf V c 0) rfl) $$ HS; iintro HS
  iapply (send_step V K c 7 4 3 rfl (dev7_eq c) rfl rfl (src := chunk psdM 0) (dst := chunk prcM 0) rfl rfl (psf V c 0) fd .rfl (prf V (pr c) 0)
      ((View.read_write_univ (v := (chunk prcM 0).view) (xb V (pr c)) (ps V (pr (pr c)) 0)).trans ((congrArg (fun d => ps V d 0) (pr_pr c)).trans (View.read_write_univ (v := (chunk psdM 0).view) (xb V c) (ps V c 0)).symm)) .rfl) $$ [HS HD HO Hg]
  · isplitr; · iexact HC
    isplitr; · iexact HR
    isplitl [HS]; · iexact HS
    isplitl [HD]; · iexact HD
    isplitl [HO]; · iexact HO
    iexact Hg
  iintro ⟨Hr7, HO⟩
  iapply (ret_step c _)
  iapply Hk
  isplitl [HO]; · iexact HO
  isplitl [Hr7]; · iexact Hr7
  isplitl [HM]; · iexact HM
  isplitl [HU]; · iexact HU
  iexact HV

/-- The second band has come in; its first products. -/
theorem part6 (v5 v8 v155 v0 : BitVec 32) {Q : (Σ' (_ : FVec F S128x512 .f32), FVec F S128x1024 .f32) → sProp 𝕄} :
    iprop((ctx V K c ∗ owing c 3 ∗ right c 13 ∗ mats V c)
      ∗ ((owing c 3 ∗ past c 13 ∗ has c (chunk xrM 1) (xb V (pr c)) ∗ mats V c) -∗ Q ⟨k0_pay9 (xw V c 1) (mw V c 1) (wa0 V c) (wb0 V c), k0_pay10 (xw V c 1) (mw V c 1) (wa1 V c)⟩))
      ⊢ run c (k0_part6 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v5 v8 v155 v0) Q := by
  simp only [k0_part6_eq_skeleton]; unfold k0_part6_skel
  simp only [run, semSignalWord, semWaitWord, Prog.lift, Prog.bind_op, Prog.bind_ret, Prog.pure_eq_ret, Prog.bind_assoc, wp_deviceId]
  unfold mats
  iintro ⟨⟨#HC, HO, Hr13, HM, HU, HV⟩, Hk⟩
  iapply (wait_step V K c 13 3 (by decide) (has c (chunk xrM 1) (xb V (pr c))) rfl rfl (dst := chunk xrM 1) rfl) $$ [Hr13 HO]
  · isplitr; · iexact HC
    isplitl [Hr13]; · iexact Hr13
    iexact HO
  iintro ⟨HO, Hp13, HX⟩
  iapply (load_band c xrM (Rect.unit (s := S512x512) ![128, 0] S128x512.size inb_S512x512_S128x512_128_0) (hr := fun _ => rfl) _ (xw V c 1) rfl) $$ HX; iintro HX
  iapply (load_step c mrM (Rect.unit (s := S512x2) ![128, 0] S128x2.size inb_S512x2_S128x2_128_0) _ (mw V c 1) rfl) $$ HM; iintro HM
  iapply (load_step c w1M (Rect.unit (s := S2x512x1024) ![0, 0, 0] S1x512x1024.size inb_S2x512x1024_S1x512x1024_0_0_0) _ (wa0 V c) rfl) $$ HU; iintro HU
  iapply (load_step c w2M (Rect.unit (s := S2x1024x512) ![0, 0, 0] S1x1024x512.size inb_S2x1024x512_S1x1024x512_0_0_0) _ (wb0 V c) rfl) $$ HV; iintro HV
  iapply (load_step c w1M (Rect.unit (s := S2x512x1024) ![1, 0, 0] S1x512x1024.size inb_S2x512x1024_S1x512x1024_1_0_0) _ (wa1 V c) rfl) $$ HU; iintro HU
  iapply (ret_step c _)
  iapply Hk
  isplitl [HO]; · iexact HO
  isplitl [Hp13]; · iexact Hp13
  isplitl [HX]; · iexact HX
  isplitl [HM]; · iexact HM
  isplitl [HU]; · iexact HU
  iexact HV

/-- The second band's result, stored and sent back; the third band has come in. -/
theorem part7 (v5 v8 v9 : BitVec 32) {Q : PUnit → sProp 𝕄} :
    iprop((ctx V K c ∗ ready c ∗ owing c 3 ∗ mats V c ∗ (∃ f, has c (chunk psdM 1) f) ∗ (∃ f, has (pr c) (chunk prcM 1) f) ∗ gear c 8 5 ∗ right c 14)
      ∗ ((owing c 2 ∗ right c 8 ∗ past c 14 ∗ has c (chunk xrM 2) (xb V (pr c)) ∗ mats V c) -∗ Q ⟨⟩))
      ⊢ run c (k0_part7 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v8 v9 (k0_pay9 (xw V c 1) (mw V c 1) (wa0 V c) (wb0 V c)) (k0_pay10 (xw V c 1) (mw V c 1) (wa1 V c))) Q := by
  simp only [k0_part7_eq_skeleton]; unfold k0_part7_skel
  simp only [run, semSignalWord, semWaitWord, Prog.lift, Prog.bind_op, Prog.bind_ret, Prog.pure_eq_ret, Prog.bind_assoc, wp_deviceId]
  unfold mats
  iintro ⟨⟨#HC, #HR, HO, ⟨HM, HU, HV⟩, ⟨%fs, HS⟩, ⟨%fd, HD⟩, Hg, Hr14⟩, Hk⟩
  iapply (load_step c w2M (Rect.unit (s := S2x1024x512) ![1, 0, 0] S1x1024x512.size inb_S2x1024x512_S1x1024x512_1_0_0) _ (wb1 V c) rfl) $$ HV; iintro HV
  iapply (load_band c psdM (Rect.unit (s := S512x512) ![128, 0] S128x512.size inb_S512x512_S128x512_128_0) (hr := fun _ => rfl) _ _ rfl) $$ HS; iintro HS
  iapply (store_band c psdM (Rect.unit (s := S512x512) ![128, 0] S128x512.size inb_S512x512_S128x512_128_0) (hr := fun _ => rfl) fs (xb V c) (psf V c 1) rfl) $$ HS; iintro HS
  iapply (send_step V K c 8 5 2 rfl (dev8_eq c) rfl rfl (src := chunk psdM 1) (dst := chunk prcM 1) rfl rfl (psf V c 1) fd .rfl (prf V (pr c) 1)
      ((View.read_write_univ (v := (chunk prcM 1).view) (xb V (pr c)) (ps V (pr (pr c)) 1)).trans ((congrArg (fun d => ps V d 1) (pr_pr c)).trans (View.read_write_univ (v := (chunk psdM 1).view) (xb V c) (ps V c 1)).symm)) .rfl) $$ [HS HD HO Hg]
  · isplitr; · iexact HC
    isplitr; · iexact HR
    isplitl [HS]; · iexact HS
    isplitl [HD]; · iexact HD
    isplitl [HO]; · iexact HO
    iexact Hg
  iintro ⟨Hr8, HO⟩
  iapply (wait_step V K c 14 2 (by decide) (has c (chunk xrM 2) (xb V (pr c))) rfl rfl (dst := chunk xrM 2) rfl) $$ [Hr14 HO]
  · isplitr; · iexact HC
    isplitl [Hr14]; · iexact Hr14
    iexact HO
  iintro ⟨HO, Hp14, HX⟩
  iapply (ret_step c _)
  iapply Hk
  isplitl [HO]; · iexact HO
  isplitl [Hr8]; · iexact Hr8
  isplitl [Hp14]; · iexact Hp14
  isplitl [HX]; · iexact HX
  isplitl [HM]; · iexact HM
  isplitl [HU]; · iexact HU
  iexact HV

/-- The third band's result, stored. -/
theorem part8 {Q : PUnit → sProp 𝕄} :
    iprop((has c (chunk xrM 2) (xb V (pr c)) ∗ mats V c ∗ (∃ f, has c (chunk psdM 2) f))
      ∗ ((has c (chunk xrM 2) (xb V (pr c)) ∗ has c (chunk psdM 2) (psf V c 2) ∗ mats V c) -∗ Q ⟨⟩))
      ⊢ run c (k0_part8 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Q := by
  simp only [k0_part8_eq_skeleton]; unfold k0_part8_skel
  simp only [run, semSignalWord, semWaitWord, Prog.lift, Prog.bind_op, Prog.bind_ret, Prog.pure_eq_ret, Prog.bind_assoc, wp_deviceId]
  unfold mats
  iintro ⟨⟨HX, ⟨HM, HU, HV⟩, ⟨%fs, HS⟩⟩, Hk⟩
  iapply (load_band c xrM (Rect.unit (s := S512x512) ![256, 0] S128x512.size inb_S512x512_S128x512_256_0) (hr := fun _ => rfl) _ (xw V c 2) rfl) $$ HX; iintro HX
  iapply (load_step c mrM (Rect.unit (s := S512x2) ![256, 0] S128x2.size inb_S512x2_S128x2_256_0) _ (mw V c 2) rfl) $$ HM; iintro HM
  iapply (load_step c w1M (Rect.unit (s := S2x512x1024) ![0, 0, 0] S1x512x1024.size inb_S2x512x1024_S1x512x1024_0_0_0) _ (wa0 V c) rfl) $$ HU; iintro HU
  iapply (load_step c w2M (Rect.unit (s := S2x1024x512) ![0, 0, 0] S1x1024x512.size inb_S2x1024x512_S1x1024x512_0_0_0) _ (wb0 V c) rfl) $$ HV; iintro HV
  iapply (load_step c w1M (Rect.unit (s := S2x512x1024) ![1, 0, 0] S1x512x1024.size inb_S2x512x1024_S1x512x1024_1_0_0) _ (wa1 V c) rfl) $$ HU; iintro HU
  iapply (load_step c w2M (Rect.unit (s := S2x1024x512) ![1, 0, 0] S1x1024x512.size inb_S2x1024x512_S1x1024x512_1_0_0) _ (wb1 V c) rfl) $$ HV; iintro HV
  iapply (load_band c psdM (Rect.unit (s := S512x512) ![256, 0] S128x512.size inb_S512x512_S128x512_256_0) (hr := fun _ => rfl) _ _ rfl) $$ HS; iintro HS
  iapply (store_band c psdM (Rect.unit (s := S512x512) ![256, 0] S128x512.size inb_S512x512_S128x512_256_0) (hr := fun _ => rfl) fs (xb V c) (psf V c 2) rfl) $$ HS; iintro HS
  iapply (ret_step c _)
  iapply Hk
  isplitl [HX]; · iexact HX
  isplitl [HS]; · iexact HS
  isplitl [HM]; · iexact HM
  isplitl [HU]; · iexact HU
  iexact HV

/-- The third band's result is sent back; the fourth band has come in. -/
theorem part9 (v5 v8 v9 : BitVec 32) {Q : (Σ' (_ : FVec F S128x512 .f32) (_ : FVec F S128x2 .f32) (_ : FVec F S128x512 .f32) (_ : FVec F S128x512 .f32), FVec F S512x1024 .f32) → sProp 𝕄} :
    iprop((ctx V K c ∗ ready c ∗ owing c 2 ∗ mats V c ∗ has c (chunk psdM 2) (psf V c 2) ∗ (∃ f, has (pr c) (chunk prcM 2) f) ∗ gear c 9 6 ∗ right c 15)
      ∗ ((owing c 1 ∗ right c 9 ∗ past c 15 ∗ has c (chunk xrM 3) (xb V (pr c)) ∗ mats V c) -∗ Q ⟨k0_pay13 (xw V c 3), k0_pay14 (mw V c 3), k0_pay15 (F := F), k0_pay16 (xw V c 3) (mw V c 3), k0_pay17 (wa0 V c)⟩))
      ⊢ run c (k0_part9 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c v5 v8 v9) Q := by
  simp only [k0_part9_eq_skeleton]; unfold k0_part9_skel
  simp only [run, semSignalWord, semWaitWord, Prog.lift, Prog.bind_op, Prog.bind_ret, Prog.pure_eq_ret, Prog.bind_assoc, wp_deviceId]
  unfold mats
  iintro ⟨⟨#HC, #HR, HO, ⟨HM, HU, HV⟩, HS, ⟨%fd, HD⟩, Hg, Hr15⟩, Hk⟩
  iapply (send_step V K c 9 6 1 rfl (dev9_eq c) rfl rfl (src := chunk psdM 2) (dst := chunk prcM 2) rfl rfl (psf V c 2) fd .rfl (prf V (pr c) 2)
      ((View.read_write_univ (v := (chunk prcM 2).view) (xb V (pr c)) (ps V (pr (pr c)) 2)).trans ((congrArg (fun d => ps V d 2) (pr_pr c)).trans (View.read_write_univ (v := (chunk psdM 2).view) (xb V c) (ps V c 2)).symm)) .rfl) $$ [HS HD HO Hg]
  · isplitr; · iexact HC
    isplitr; · iexact HR
    isplitl [HS]; · iexact HS
    isplitl [HD]; · iexact HD
    isplitl [HO]; · iexact HO
    iexact Hg
  iintro ⟨Hr9, HO⟩
  iapply (wait_step V K c 15 1 (by decide) (has c (chunk xrM 3) (xb V (pr c))) rfl rfl (dst := chunk xrM 3) rfl) $$ [Hr15 HO]
  · isplitr; · iexact HC
    isplitl [Hr15]; · iexact Hr15
    iexact HO
  iintro ⟨HO, Hp15, HX⟩
  iapply (load_band c xrM (Rect.unit (s := S512x512) ![384, 0] S128x512.size inb_S512x512_S128x512_384_0) (hr := fun _ => rfl) _ (xw V c 3) rfl) $$ HX; iintro HX
  iapply (load_step c mrM (Rect.unit (s := S512x2) ![384, 0] S128x2.size inb_S512x2_S128x2_384_0) _ (mw V c 3) rfl) $$ HM; iintro HM
  iapply (load_step c w1M (Rect.unit (s := S2x512x1024) ![0, 0, 0] S1x512x1024.size inb_S2x512x1024_S1x512x1024_0_0_0) _ (wa0 V c) rfl) $$ HU; iintro HU
  iapply (ret_step c _)
  iapply Hk
  isplitl [HO]; · iexact HO
  isplitl [Hr9]; · iexact Hr9
  isplitl [Hp15]; · iexact Hp15
  isplitl [HX]; · iexact HX
  isplitl [HM]; · iexact HM
  isplitl [HU]; · iexact HU
  iexact HV

/-- The fourth band's result, stored. -/
theorem part10 (v5 v8 v9 : BitVec 32) {Q : PUnit → sProp 𝕄} :
    iprop((mats V c ∗ (∃ f, has c (chunk psdM 3) f))
      ∗ ((has c (chunk psdM 3) (psf V c 3) ∗ mats V c) -∗ Q ⟨⟩))
      ⊢ run c (k0_part10 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v5 v8 v9 (k0_pay13 (xw V c 3)) (k0_pay14 (mw V c 3)) (k0_pay15 (F := F)) (k0_pay16 (xw V c 3) (mw V c 3)) (k0_pay17 (wa0 V c))) Q := by
  simp only [k0_part10_eq_skeleton]; unfold k0_part10_skel
  simp only [run, semSignalWord, semWaitWord, Prog.lift, Prog.bind_op, Prog.bind_ret, Prog.pure_eq_ret, Prog.bind_assoc, wp_deviceId]
  unfold mats
  iintro ⟨⟨⟨HM, HU, HV⟩, ⟨%fs, HS⟩⟩, Hk⟩
  iapply (load_step c w2M (Rect.unit (s := S2x1024x512) ![0, 0, 0] S1x1024x512.size inb_S2x1024x512_S1x1024x512_0_0_0) _ (wb0 V c) rfl) $$ HV; iintro HV
  iapply (load_step c w1M (Rect.unit (s := S2x512x1024) ![1, 0, 0] S1x512x1024.size inb_S2x512x1024_S1x512x1024_1_0_0) _ (wa1 V c) rfl) $$ HU; iintro HU
  iapply (load_step c w2M (Rect.unit (s := S2x1024x512) ![1, 0, 0] S1x1024x512.size inb_S2x1024x512_S1x1024x512_1_0_0) _ (wb1 V c) rfl) $$ HV; iintro HV
  iapply (load_band c psdM (Rect.unit (s := S512x512) ![384, 0] S128x512.size inb_S512x512_S128x512_384_0) (hr := fun _ => rfl) _ _ rfl) $$ HS; iintro HS
  iapply (store_band c psdM (Rect.unit (s := S512x512) ![384, 0] S128x512.size inb_S512x512_S128x512_384_0) (hr := fun _ => rfl) fs (xb V c) (psf V c 3) rfl) $$ HS; iintro HS
  iapply (ret_step c _)
  iapply Hk
  isplitl [HS]; · iexact HS
  isplitl [HM]; · iexact HM
  isplitl [HU]; · iexact HU
  iexact HV

end Cert.KernelIdeal.Talk

end
-- ==== Proof.Ideal.PartD.lean ====
/-
  The kernel's run: the device's result on its own rows, and the partner's results added to it band by band.
-/
module

public import proofs.«01_k».proof.Proof.Ideal.PartC

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-- The last band's result is sent back; the device's own rows are computed. -/
theorem part11 {Q : PUnit → sProp 𝕄} :
    iprop((ctx V K c ∗ ready c ∗ owing c 1 ∗ has c (chunk psdM 3) (psf V c 3) ∗ (∃ f, has (pr c) (chunk prcM 3) f) ∗ gear c 10 7 ∗ has c xM (V c main_arg0) ∗ has c msM (V c main_v14) ∗ wts V c ∗ (∃ f, has c outM f))
      ∗ ((owing c 0 ∗ right c 10 ∗ has c outM (o0 V c) ∗ has c xM (V c main_arg0) ∗ has c msM (V c main_v14) ∗ wts V c) -∗ Q ⟨⟩))
      ⊢ run c (k0_part11 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 c) Q := by
  simp only [k0_part11_eq_skeleton]; unfold k0_part11_skel
  simp only [run, semSignalWord, semWaitWord, Prog.lift, Prog.bind_op, Prog.bind_ret, Prog.pure_eq_ret, Prog.bind_assoc, wp_deviceId]
  unfold wts
  iintro ⟨⟨#HC, #HR, HO, HS, ⟨%fd, HD⟩, Hg, HXf, Hms, ⟨HU, HV⟩, ⟨%fo, Ho⟩⟩, Hk⟩
  iapply (send_step V K c 10 7 0 rfl (dev10_eq c) rfl rfl (src := chunk psdM 3) (dst := chunk prcM 3) rfl rfl (psf V c 3) fd .rfl (prf V (pr c) 3)
      ((View.read_write_univ (v := (chunk prcM 3).view) (xb V (pr c)) (ps V (pr (pr c)) 3)).trans ((congrArg (fun d => ps V d 3) (pr_pr c)).trans (View.read_write_univ (v := (chunk psdM 3).view) (xb V c) (ps V c 3)).symm)) .rfl) $$ [HS HD HO Hg]
  · isplitr; · iexact HC
    isplitr; · iexact HR
    isplitl [HS]; · iexact HS
    isplitl [HD]; · iexact HD
    isplitl [HO]; · iexact HO
    iexact Hg
  iintro ⟨Hr10, HO⟩
  iapply (load_step c xM (Rect.unit (s := S512x512) ![0, 0] S512x512.size inb_S512x512_S512x512_0_0) _ (xv V c) rfl) $$ HXf; iintro HXf
  iapply (load_step c msM (Rect.unit (s := S512x2) ![0, 0] S512x2.size inb_S512x2_S512x2_0_0) _ _ rfl) $$ Hms; iintro Hms
  iapply (load_step c w1M (Rect.unit (s := S2x512x1024) ![0, 0, 0] S1x512x1024.size inb_S2x512x1024_S1x512x1024_0_0_0) _ (wa0 V c) rfl) $$ HU; iintro HU
  iapply (load_step c w2M (Rect.unit (s := S2x1024x512) ![0, 0, 0] S1x1024x512.size inb_S2x1024x512_S1x1024x512_0_0_0) _ (wb0 V c) rfl) $$ HV; iintro HV
  iapply (load_step c w1M (Rect.unit (s := S2x512x1024) ![1, 0, 0] S1x512x1024.size inb_S2x512x1024_S1x512x1024_1_0_0) _ (wa1 V c) rfl) $$ HU; iintro HU
  iapply (load_step c w2M (Rect.unit (s := S2x1024x512) ![1, 0, 0] S1x1024x512.size inb_S2x1024x512_S1x1024x512_1_0_0) _ (wb1 V c) rfl) $$ HV; iintro HV
  iapply (load_step c outM (Rect.unit (s := S512x512) ![0, 0] S512x512.size inb_S512x512_S512x512_0_0) _ _ rfl) $$ Ho; iintro Ho
  iapply (store_step c outM (Rect.unit (s := S512x512) ![0, 0] S512x512.size inb_S512x512_S512x512_0_0) _ _ rfl) $$ Ho; iintro Ho
  ihave Ho := (Entails.of_eq (full_store c outM fo (V c main_arg0) _)) $$ Ho
  iapply (ret_step c _)
  iapply Hk
  isplitl [HO]; · iexact HO
  isplitl [Hr10]; · iexact Hr10
  isplitl [Ho]; · iexact Ho
  isplitl [HXf]; · iexact HXf
  isplitl [Hms]; · iexact Hms
  isplitl [HU]; · iexact HU
  iexact HV

/-- The first band of the partner's results is added. -/
theorem part12 (v5 v8 v9 : BitVec 32) {Q : (FVec F S128x512 .f32) → sProp 𝕄} :
    iprop((ctx V K c ∗ owing c 0 ∗ right c 16 ∗ right c 17 ∗ has c outM (o0 V c))
      ∗ ((owing c 0 ∗ past c 16 ∗ past c 17 ∗ has c (chunk prcM 0) (prf V c 0) ∗ has c (chunk prcM 1) (prf V c 1) ∗ has c outM (o1 V c)) -∗ Q (k0_pay21 (outM.view.readAt (Elt F) (Rect.unit (s := S512x512) ![128, 0] S128x512.size inb_S512x512_S128x512_128_0).toLoadRect (o1 V c)))))
      ⊢ run c (k0_part12 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v5 v8 v9) Q := by
  simp only [k0_part12_eq_skeleton]; unfold k0_part12_skel
  simp only [run, semSignalWord, semWaitWord, Prog.lift, Prog.bind_op, Prog.bind_ret, Prog.pure_eq_ret, Prog.bind_assoc, wp_deviceId]
  iintro ⟨⟨#HC, HO, Hr16, Hr17, Ho⟩, Hk⟩
  iapply (wait_step V K c 16 0 (by decide) (has c (chunk prcM 0) (prf V c 0)) rfl rfl (dst := chunk prcM 0) rfl) $$ [Hr16 HO]
  · isplitr; · iexact HC
    isplitl [Hr16]; · iexact Hr16
    iexact HO
  iintro ⟨HO, Hp16, HP⟩
  iapply (load_step c outM (Rect.unit (s := S512x512) ![0, 0] S128x512.size inb_S512x512_S128x512_0_0) _ _ rfl) $$ Ho; iintro Ho
  iapply (load_band c prcM (Rect.unit (s := S512x512) ![0, 0] S128x512.size inb_S512x512_S128x512_0_0) (hr := fun _ => rfl) _ _ rfl) $$ HP; iintro HP
  iapply (load_step c outM (Rect.unit (s := S512x512) ![0, 0] S128x512.size inb_S512x512_S128x512_0_0) _ _ rfl) $$ Ho; iintro Ho
  iapply (store_step c outM (Rect.unit (s := S512x512) ![0, 0] S128x512.size inb_S512x512_S128x512_0_0) _ (o1 V c) rfl) $$ Ho; iintro Ho
  iapply (wait_step V K c 17 0 (by decide) (has c (chunk prcM 1) (prf V c 1)) rfl rfl (dst := chunk prcM 1) rfl) $$ [Hr17 HO]
  · isplitr; · iexact HC
    isplitl [Hr17]; · iexact Hr17
    iexact HO
  iintro ⟨HO, Hp17, HP1⟩
  iapply (load_step c outM (Rect.unit (s := S512x512) ![128, 0] S128x512.size inb_S512x512_S128x512_128_0) _ _ rfl) $$ Ho; iintro Ho
  iapply (ret_step c _)
  iapply Hk
  isplitl [HO]; · iexact HO
  isplitl [Hp16]; · iexact Hp16
  isplitl [Hp17]; · iexact Hp17
  isplitl [HP]; · iexact HP
  isplitl [HP1]; · iexact HP1
  iexact Ho

/-- The second and third bands of the partner's results are added. -/
theorem part13 (v5 v8 v9 : BitVec 32) {Q : PUnit → sProp 𝕄} :
    iprop((ctx V K c ∗ owing c 0 ∗ right c 18 ∗ has c (chunk prcM 1) (prf V c 1) ∗ has c outM (o1 V c))
      ∗ ((owing c 0 ∗ past c 18 ∗ has c (chunk prcM 1) (prf V c 1) ∗ has c (chunk prcM 2) (prf V c 2) ∗ has c outM (o3 V c)) -∗ Q ⟨⟩))
      ⊢ run c (k0_part13 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v5 v8 v9 (k0_pay21 (outM.view.readAt (Elt F) (Rect.unit (s := S512x512) ![128, 0] S128x512.size inb_S512x512_S128x512_128_0).toLoadRect (o1 V c)))) Q := by
  simp only [k0_part13_eq_skeleton]; unfold k0_part13_skel
  simp only [run, semSignalWord, semWaitWord, Prog.lift, Prog.bind_op, Prog.bind_ret, Prog.pure_eq_ret, Prog.bind_assoc, wp_deviceId]
  iintro ⟨⟨#HC, HO, Hr18, HP, Ho⟩, Hk⟩
  iapply (load_band c prcM (Rect.unit (s := S512x512) ![128, 0] S128x512.size inb_S512x512_S128x512_128_0) (hr := fun _ => rfl) _ _ rfl) $$ HP; iintro HP
  iapply (load_step c outM (Rect.unit (s := S512x512) ![128, 0] S128x512.size inb_S512x512_S128x512_128_0) _ _ rfl) $$ Ho; iintro Ho
  iapply (store_step c outM (Rect.unit (s := S512x512) ![128, 0] S128x512.size inb_S512x512_S128x512_128_0) _ (o2 V c) rfl) $$ Ho; iintro Ho
  iapply (wait_step V K c 18 0 (by decide) (has c (chunk prcM 2) (prf V c 2)) rfl rfl (dst := chunk prcM 2) rfl) $$ [Hr18 HO]
  · isplitr; · iexact HC
    isplitl [Hr18]; · iexact Hr18
    iexact HO
  iintro ⟨HO, Hp18, HQ⟩
  iapply (load_step c outM (Rect.unit (s := S512x512) ![256, 0] S128x512.size inb_S512x512_S128x512_256_0) _ _ rfl) $$ Ho; iintro Ho
  iapply (load_band c prcM (Rect.unit (s := S512x512) ![256, 0] S128x512.size inb_S512x512_S128x512_256_0) (hr := fun _ => rfl) _ _ rfl) $$ HQ; iintro HQ
  iapply (load_step c outM (Rect.unit (s := S512x512) ![256, 0] S128x512.size inb_S512x512_S128x512_256_0) _ _ rfl) $$ Ho; iintro Ho
  iapply (store_step c outM (Rect.unit (s := S512x512) ![256, 0] S128x512.size inb_S512x512_S128x512_256_0) _ (o3 V c) rfl) $$ Ho; iintro Ho
  iapply (ret_step c _)
  iapply Hk
  isplitl [HO]; · iexact HO
  isplitl [Hp18]; · iexact Hp18
  isplitl [HP]; · iexact HP
  isplitl [HQ]; · iexact HQ
  iexact Ho

/-- The last band of the partner's results is added; the mask and the first three bands of rows sent are back. -/
theorem part14 {Q : PUnit → sProp 𝕄} :
    iprop((ctx V K c ∗ owing c 0 ∗ right c 19 ∗ right c 11 ∗ right c 3 ∗ right c 4 ∗ right c 5 ∗ has c outM (o3 V c))
      ∗ ((owing c 0 ∗ past c 19 ∗ past c 11 ∗ past c 3 ∗ past c 4 ∗ past c 5 ∗ has c (chunk prcM 3) (prf V c 3) ∗ has c mnM (V c main_v24) ∗ has c (chunk xsdM 0) (xb V c) ∗ has c (chunk xsdM 1) (xb V c) ∗ has c (chunk xsdM 2) (xb V c) ∗ has c outM (o4 V c)) -∗ Q ⟨⟩))
      ⊢ run c (k0_part14 (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Q := by
  simp only [k0_part14_eq_skeleton]; unfold k0_part14_skel
  simp only [run, semSignalWord, semWaitWord, Prog.lift, Prog.bind_op, Prog.bind_ret, Prog.pure_eq_ret, Prog.bind_assoc, wp_deviceId]
  iintro ⟨⟨#HC, HO, Hr19, Hr11, Hr3, Hr4, Hr5, Ho⟩, Hk⟩
  iapply (wait_step V K c 19 0 (by decide) (has c (chunk prcM 3) (prf V c 3)) rfl rfl (dst := chunk prcM 3) rfl) $$ [Hr19 HO]
  · isplitr; · iexact HC
    isplitl [Hr19]; · iexact Hr19
    iexact HO
  iintro ⟨HO, Hp19, HP⟩
  iapply (load_step c outM (Rect.unit (s := S512x512) ![384, 0] S128x512.size inb_S512x512_S128x512_384_0) _ _ rfl) $$ Ho; iintro Ho
  iapply (load_band c prcM (Rect.unit (s := S512x512) ![384, 0] S128x512.size inb_S512x512_S128x512_384_0) (hr := fun _ => rfl) _ _ rfl) $$ HP; iintro HP
  iapply (load_step c outM (Rect.unit (s := S512x512) ![384, 0] S128x512.size inb_S512x512_S128x512_384_0) _ _ rfl) $$ Ho; iintro Ho
  iapply (store_step c outM (Rect.unit (s := S512x512) ![384, 0] S128x512.size inb_S512x512_S128x512_384_0) _ (o4 V c) rfl) $$ Ho; iintro Ho
  iapply (wait_step V K c 11 0 (by decide) (has c mnM (V c main_v24)) rfl rfl (dst := mnM) rfl) $$ [Hr11 HO]
  · isplitr; · iexact HC
    isplitl [Hr11]; · iexact Hr11
    iexact HO
  iintro ⟨HO, Hp11, Hm⟩
  iapply (wait_step V K c 3 0 (by decide) (has c (chunk xsdM 0) (xb V c)) rfl rfl (dst := chunk xsdM 0) rfl) $$ [Hr3 HO]
  · isplitr; · iexact HC
    isplitl [Hr3]; · iexact Hr3
    iexact HO
  iintro ⟨HO, Hp3, Hs0⟩
  iapply (wait_step V K c 4 0 (by decide) (has c (chunk xsdM 1) (xb V c)) rfl rfl (dst := chunk xsdM 1) rfl) $$ [Hr4 HO]
  · isplitr; · iexact HC
    isplitl [Hr4]; · iexact Hr4
    iexact HO
  iintro ⟨HO, Hp4, Hs1⟩
  iapply (wait_step V K c 5 0 (by decide) (has c (chunk xsdM 2) (xb V c)) rfl rfl (dst := chunk xsdM 2) rfl) $$ [Hr5 HO]
  · isplitr; · iexact HC
    isplitl [Hr5]; · iexact Hr5
    iexact HO
  iintro ⟨HO, Hp5, Hs2⟩
  iapply (ret_step c _)
  iapply Hk
  isplitl [HO]; · iexact HO
  isplitl [Hp19]; · iexact Hp19
  isplitl [Hp11]; · iexact Hp11
  isplitl [Hp3]; · iexact Hp3
  isplitl [Hp4]; · iexact Hp4
  isplitl [Hp5]; · iexact Hp5
  isplitl [HP]; · iexact HP
  isplitl [Hm]; · iexact Hm
  isplitl [Hs0]; · iexact Hs0
  isplitl [Hs1]; · iexact Hs1
  isplitl [Hs2]; · iexact Hs2
  iexact Ho

end Cert.KernelIdeal.Talk

end
-- ==== Proof.Ideal.Body.lean ====
/-
  The kernel's run, put together: a device from the start of the body to its end.
-/
module

public import proofs.«01_k».proof.Proof.Ideal.PartD

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

theorem bind_step {α β : Type} {Q : β → sProp 𝕄} (p : Prog (TpuEff nD τ sig (Elt F) Λ₀ .tc) α) (k : α → Prog (TpuEff nD τ sig (Elt F) Λ₀ .tc) β) :
    run c p (fun x => run c (k x) Q) ⊢ run c (p >>= k) Q := by
  unfold run; rw [wp_bind]

theorem fupd_step {α : Type} {Q : α → sProp 𝕄} (v : α) : iprop(|={Set.univ}=> Q v) ⊢ run (F := F) c (.ret v) Q := by
  unfold run; rw [wp_ret]

/-- The cells' rights at the start: three copies in, nine sends with the payments at the partner, nine arrivals. -/
def sd (j : Fin 9) : Fin 21 := ⟨3 + j, by omega⟩
def kit (c : Dev nD) : sProp 𝕄 :=
  iprop((bigSep (Finset.univ : Finset (Fin 3)) fun i => iprop(tok c (i.castLE (by decide)) ∗ atPos ER (cell c (i.castLE (by decide))) 0 ∅ 0))
    ∗ (bigSep (Finset.univ : Finset (Fin 9)) fun j => gear c (sd j) j) ∗ bigSep (Finset.univ : Finset (Fin 9)) fun j => right c (rk j))
theorem kit_eq : kit (F := F) c = iprop(((tok c 0 ∗ atPos ER (cell c 0) 0 ∅ 0) ∗ (tok c 1 ∗ atPos ER (cell c 1) 0 ∅ 0) ∗ (tok c 2 ∗ atPos ER (cell c 2) 0 ∅ 0))
    ∗ (gear c 3 0 ∗ gear c 4 1 ∗ gear c 5 2 ∗ gear c 6 3 ∗ gear c 7 4 ∗ gear c 8 5 ∗ gear c 9 6 ∗ gear c 10 7 ∗ gear c 11 8) ∗ (right c 12 ∗ right c 13 ∗ right c 14 ∗ right c 15 ∗ right c 16 ∗ right c 17 ∗ right c 18 ∗ right c 19 ∗ right c 20)) := by
  unfold kit
  rw [bigSep_eq_bigSepL_of_eq [0, 1, 2] (by decide) (by decide), bigSep_eq_bigSepL_of_eq [0, 1, 2, 3, 4, 5, 6, 7, 8] (by decide) (by decide),
    bigSep_eq_bigSepL_of_eq [0, 1, 2, 3, 4, 5, 6, 7, 8] (by decide) (by decide)]
  rfl

/-- The scoped buffers no window stages, at contents not chosen. -/
def room (c : Dev nD) : sProp 𝕄 :=
  iprop((∃ f, has c xM f) ∗ (∃ f, has c w1M f) ∗ (∃ f, has c w2M f) ∗ (∃ f, has c xsdM f) ∗ (∃ f, has c xrM f) ∗ (∃ f, has c mrM f)
    ∗ (∃ f, has c prcM f) ∗ (∃ f, has c psdM f))

/-- The arguments the body copies in itself. -/
def ins (c : Dev nD) : sProp 𝕄 := iprop(has c xH (V c main_arg0) ∗ has c w1H (V c main_arg2) ∗ has c w2H (V c main_arg3))

/-- Every round of every cell is over. -/
def over (c : Dev nD) : sProp 𝕄 := iprop(atPos ER (barCell c) 1 ∅ 0 ∗ bigSep (Finset.univ : Finset (Fin 21)) fun k => past c k)
theorem over_eq : over (F := F) c = iprop(atPos ER (barCell c) 1 ∅ 0 ∗ past c 0 ∗ past c 1 ∗ past c 2 ∗ past c 3 ∗ past c 4 ∗ past c 5 ∗ past c 6 ∗ past c 7 ∗ past c 8 ∗ past c 9 ∗ past c 10 ∗ past c 11 ∗ past c 12 ∗ past c 13 ∗ past c 14 ∗ past c 15 ∗ past c 16 ∗ past c 17 ∗ past c 18 ∗ past c 19 ∗ past c 20) := by
  unfold over
  rw [bigSep_eq_bigSepL_of_eq [0, 1, 2, 3, 4, 5, 6, 7, 8, 9, 10, 11, 12, 13, 14, 15, 16, 17, 18, 19, 20] (by decide) (by decide)]
  rfl

/-- The body: from its operands, the cells and the room, to the result, every copy waited for. -/
theorem body_run {Q : PUnit → sProp 𝕄} :
    iprop((ctx V K c ∗ owing c 10 ∗ hand c ∗ kit c ∗ ins V c ∗ (has c msM (V c main_v14) ∗ has c mnM (V c main_v24) ∗ ∃ f, has c outM f) ∗ room c)
      ∗ ((owing c 0 ∗ over c ∗ ins V c ∗ (has c msM (V c main_v14) ∗ has c mnM (V c main_v24) ∗ has c outM (o4 V c)) ∗ room c) -∗ |={Set.univ}=> Q ⟨⟩))
      ⊢ run c (cc0_body (F := F) (Memref.whole main_arg0) (Memref.isWhole_whole _) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10) Q := by
  rw [kit_eq, over_eq]
  rw [cc0_body_eq_skeleton]; unfold cc0_body_skel; rw [k0_part15_eq_skeleton]; unfold k0_part15_skel
  simp only [Prog.lift, Prog.bind_assoc]
  unfold room ins
  iintro ⟨⟨#HC, HO, Hhand, ⟨⟨⟨Ht0, Ha0⟩, ⟨Ht1, Ha1⟩, ⟨Ht2, Ha2⟩⟩, ⟨Hg3, Hg4, Hg5, Hg6, Hg7, Hg8, Hg9, Hg10, Hg11⟩, ⟨Hr12, Hr13, Hr14, Hr15, Hr16, Hr17, Hr18, Hr19, Hr20⟩⟩, ⟨HxH, HuH, HvH⟩, ⟨Hms, Hmn, Hout⟩, ⟨Hx, Hu, Hv, Hsd, Hxr, Hmr, Hpr, ⟨%fps, Hps⟩⟩⟩, Hk⟩
  ihave Hps := (split4 c psdM fps) $$ Hps
  icases Hps with ⟨Hps0, Hps1, Hps2, Hps3⟩
  have hgift : ∀ d : Dev nD, gift (F := F) d = iprop((∃ f, has d xrM f) ∗ (∃ f, has d mrM f) ∗ (∃ f, has d prcM f)) := fun _ => rfl
  iapply (bind_step c _ _)
  iapply (part1 V K c)
  isplitl [HO HxH Hx Ht2 Ha2 HuH Hu Ht0 Ha0 HvH Hv Ht1 Ha1 Hsd Hhand Hxr Hmr Hpr]
  · rw [hgift c]; unfold inn
    isplitr; · iexact HC
    isplitl [HO]; · iexact HO
    isplitl [HxH Hx Ht2 Ha2]
    · isplitl [HxH]; · iexact HxH
      isplitl [Hx]; · iexact Hx
      isplitl [Ht2]; · iexact Ht2
      iexact Ha2
    isplitl [HuH Hu Ht0 Ha0]
    · isplitl [HuH]; · iexact HuH
      isplitl [Hu]; · iexact Hu
      isplitl [Ht0]; · iexact Ht0
      iexact Ha0
    isplitl [HvH Hv Ht1 Ha1]
    · isplitl [HvH]; · iexact HvH
      isplitl [Hv]; · iexact Hv
      isplitl [Ht1]; · iexact Ht1
      iexact Ha1
    isplitl [Hsd]; · iexact Hsd
    isplitl [Hhand]; · iexact Hhand
    isplitl [Hxr]; · iexact Hxr
    isplitl [Hmr]; · iexact Hmr
    iexact Hpr
  rw [hgift (pr c)]
  iintro ⟨HO, Hr0, Hr1, Hp2, Hx, HxH, Hsd, Hbar, ⟨⟨%fxr, Hxr⟩, Hmr, ⟨%fpr, Hpr⟩⟩, #HR⟩
  try dsimp only
  ihave Hsd := (split4 c xsdM (xb V c)) $$ Hsd
  icases Hsd with ⟨Hsd0, Hsd1, Hsd2, Hsd3⟩
  ihave Hxr := (split4 (pr c) xrM fxr) $$ Hxr
  icases Hxr with ⟨Hxr0, Hxr1, Hxr2, Hxr3⟩
  ihave Hpr := (split4 (pr c) prcM fpr) $$ Hpr
  icases Hpr with ⟨Hpr0, Hpr1, Hpr2, Hpr3⟩
  iapply (bind_step c _ _)
  iapply (part2 V K c _ _ _)
  isplitl [HO Hmn Hmr Hg11 Hsd0 Hxr0 Hg3]
  · isplitr; · iexact HC
    isplitr; · iexact HR
    isplitl [HO]; · iexact HO
    isplitl [Hmn]; · iexact Hmn
    isplitl [Hmr]; · iexact Hmr
    isplitl [Hg11]; · iexact Hg11
    isplitl [Hsd0]; · iexact Hsd0
    isplitl [Hxr0]; · iexists _; iexact Hxr0
    iexact Hg3
  iintro ⟨HO, Hr11, Hr3⟩
  try dsimp only
  iapply (bind_step c _ _)
  iapply (part3 V K c _ _ _)
  isplitl [HO Hsd1 Hxr1 Hg4 Hsd2 Hxr2 Hg5 Hsd3 Hxr3 Hg6 Hr0 Hr1]
  · isplitr; · iexact HC
    isplitr; · iexact HR
    isplitl [HO]; · iexact HO
    isplitl [Hsd1]; · iexact Hsd1
    isplitl [Hxr1]; · iexists _; iexact Hxr1
    isplitl [Hg4]; · iexact Hg4
    isplitl [Hsd2]; · iexact Hsd2
    isplitl [Hxr2]; · iexists _; iexact Hxr2
    isplitl [Hg5]; · iexact Hg5
    isplitl [Hsd3]; · iexact Hsd3
    isplitl [Hxr3]; · iexists _; iexact Hxr3
    isplitl [Hg6]; · iexact Hg6
    isplitl [Hr0]; · iexact Hr0
    iexact Hr1
  iintro ⟨HO, Hr4, Hr5, Hr6, Hp0, Hp1, Hu, HuH, Hv, HvH⟩
  try dsimp only
  iapply (bind_step c _ _)
  iapply (part4 V K c _ _ _ _)
  isplitl [HO Hr20 Hr12 Hu Hv]
  · isplitr; · iexact HC
    isplitl [HO]; · iexact HO
    isplitl [Hr20]; · iexact Hr20
    isplitl [Hr12]; · iexact Hr12
    unfold wts
    isplitl [Hu]; · iexact Hu
    iexact Hv
  iintro ⟨HO, Hp20, Hp12, Hxr0, Hmat⟩
  try dsimp only
  iapply (bind_step c _ _)
  iapply (part5 V K c _ _ _)
  isplitl [HO Hmat Hps0 Hpr0 Hg7]
  · isplitr; · iexact HC
    isplitr; · iexact HR
    isplitl [HO]; · iexact HO
    isplitl [Hmat]; · iexact Hmat
    isplitl [Hps0]; · iexists _; iexact Hps0
    isplitl [Hpr0]; · iexists _; iexact Hpr0
    iexact Hg7
  iintro ⟨HO, Hr7, Hmat⟩
  try dsimp only
  iapply (bind_step c _ _)
  iapply (part6 V K c _ _ _ _)
  isplitl [HO Hr13 Hmat]
  · isplitr; · iexact HC
    isplitl [HO]; · iexact HO
    isplitl [Hr13]; · iexact Hr13
    iexact Hmat
  iintro ⟨HO, Hp13, Hxr1, Hmat⟩
  try dsimp only
  iapply (bind_step c _ _)
  iapply (part7 V K c _ _ _)
  isplitl [HO Hmat Hps1 Hpr1 Hg8 Hr14]
  · isplitr; · iexact HC
    isplitr; · iexact HR
    isplitl [HO]; · iexact HO
    isplitl [Hmat]; · iexact Hmat
    isplitl [Hps1]; · iexists _; iexact Hps1
    isplitl [Hpr1]; · iexists _; iexact Hpr1
    isplitl [Hg8]; · iexact Hg8
    iexact Hr14
  iintro ⟨HO, Hr8, Hp14, Hxr2, Hmat⟩
  try dsimp only
  iapply (bind_step c _ _)
  iapply (part8 V c)
  isplitl [Hxr2 Hmat Hps2]
  · isplitl [Hxr2]; · iexact Hxr2
    isplitl [Hmat]; · iexact Hmat
    iexists _; iexact Hps2
  iintro ⟨Hxr2, Hps2, Hmat⟩
  try dsimp only
  iapply (bind_step c _ _)
  iapply (part9 V K c _ _ _)
  isplitl [HO Hmat Hps2 Hpr2 Hg9 Hr15]
  · isplitr; · iexact HC
    isplitr; · iexact HR
    isplitl [HO]; · iexact HO
    isplitl [Hmat]; · iexact Hmat
    isplitl [Hps2]; · iexact Hps2
    isplitl [Hpr2]; · iexists _; iexact Hpr2
    isplitl [Hg9]; · iexact Hg9
    iexact Hr15
  iintro ⟨HO, Hr9, Hp15, Hxr3, Hmat⟩
  try dsimp only
  iapply (bind_step c _ _)
  iapply (part10 V c _ _ _)
  isplitl [Hmat Hps3]
  · isplitl [Hmat]; · iexact Hmat
    iexists _; iexact Hps3
  iintro ⟨Hps3, Hmat⟩
  try dsimp only
  unfold mats
  icases Hmat with ⟨Hmr, Hu, Hv⟩
  iapply (bind_step c _ _)
  iapply (part11 V K c)
  isplitl [HO Hps3 Hpr3 Hg10 Hx Hms Hu Hv Hout]
  · isplitr; · iexact HC
    isplitr; · iexact HR
    isplitl [HO]; · iexact HO
    isplitl [Hps3]; · iexact Hps3
    isplitl [Hpr3]; · iexists _; iexact Hpr3
    isplitl [Hg10]; · iexact Hg10
    isplitl [Hx]; · iexact Hx
    isplitl [Hms]; · iexact Hms
    isplitl [Hu Hv]
    · unfold wts
      isplitl [Hu]; · iexact Hu
      iexact Hv
    iexact Hout
  iintro ⟨HO, Hr10, Hout, Hx, Hms, Hw⟩
  try dsimp only
  unfold wts
  icases Hw with ⟨Hu, Hv⟩
  iapply (bind_step c _ _)
  iapply (part12 V K c _ _ _)
  isplitl [HO Hr16 Hr17 Hout]
  · isplitr; · iexact HC
    isplitl [HO]; · iexact HO
    isplitl [Hr16]; · iexact Hr16
    isplitl [Hr17]; · iexact Hr17
    iexact Hout
  iintro ⟨HO, Hp16, Hp17, Hpr0, Hpr1, Hout⟩
  try dsimp only
  iapply (bind_step c _ _)
  iapply (part13 V K c _ _ _)
  isplitl [HO Hr18 Hpr1 Hout]
  · isplitr; · iexact HC
    isplitl [HO]; · iexact HO
    isplitl [Hr18]; · iexact Hr18
    isplitl [Hpr1]; · iexact Hpr1
    iexact Hout
  iintro ⟨HO, Hp18, Hpr1, Hpr2, Hout⟩
  try dsimp only
  iapply (bind_step c _ _)
  iapply (part14 V K c)
  isplitl [HO Hr19 Hr11 Hr3 Hr4 Hr5 Hout]
  · isplitr; · iexact HC
    isplitl [HO]; · iexact HO
    isplitl [Hr19]; · iexact Hr19
    isplitl [Hr11]; · iexact Hr11
    isplitl [Hr3]; · iexact Hr3
    isplitl [Hr4]; · iexact Hr4
    isplitl [Hr5]; · iexact Hr5
    iexact Hout
  iintro ⟨HO, Hp19, Hp11, Hp3, Hp4, Hp5, Hpr3, Hmn, Hsd0, Hsd1, Hsd2, Hout⟩
  try dsimp only
  simp only [Prog.bind_op, Prog.bind_ret, Prog.pure_eq_ret]
  iapply (wait_step V K c 6 0 (by decide) (has c (chunk xsdM 3) (xb V c)) rfl rfl (dst := chunk xsdM 3) rfl) $$ [Hr6 HO]
  · isplitr; · iexact HC
    isplitl [Hr6]; · iexact Hr6
    iexact HO
  iintro ⟨HO, Hp6, Hsd3⟩
  iapply (wait_step V K c 7 0 (by decide) (has c (chunk psdM 0) (psf V c 0)) rfl rfl (dst := chunk psdM 0) rfl) $$ [Hr7 HO]
  · isplitr; · iexact HC
    isplitl [Hr7]; · iexact Hr7
    iexact HO
  iintro ⟨HO, Hp7, Hps0⟩
  iapply (wait_step V K c 8 0 (by decide) (has c (chunk psdM 1) (psf V c 1)) rfl rfl (dst := chunk psdM 1) rfl) $$ [Hr8 HO]
  · isplitr; · iexact HC
    isplitl [Hr8]; · iexact Hr8
    iexact HO
  iintro ⟨HO, Hp8, Hps1⟩
  iapply (wait_step V K c 9 0 (by decide) (has c (chunk psdM 2) (psf V c 2)) rfl rfl (dst := chunk psdM 2) rfl) $$ [Hr9 HO]
  · isplitr; · iexact HC
    isplitl [Hr9]; · iexact Hr9
    iexact HO
  iintro ⟨HO, Hp9, Hps2⟩
  iapply (wait_step V K c 10 0 (by decide) (has c (chunk psdM 3) (psf V c 3)) rfl rfl (dst := chunk psdM 3) rfl) $$ [Hr10 HO]
  · isplitr; · iexact HC
    isplitl [Hr10]; · iexact Hr10
    iexact HO
  iintro ⟨HO, Hp10, Hps3⟩
  ihave Hsd := (join4 c xsdM _ _ _ _) $$ [Hsd0 Hsd1 Hsd2 Hsd3]
  · isplitl [Hsd0]; · iexact Hsd0
    isplitl [Hsd1]; · iexact Hsd1
    isplitl [Hsd2]; · iexact Hsd2
    iexact Hsd3
  ihave Hxr := (join4 c xrM _ _ _ _) $$ [Hxr0 Hxr1 Hxr2 Hxr3]
  · isplitl [Hxr0]; · iexact Hxr0
    isplitl [Hxr1]; · iexact Hxr1
    isplitl [Hxr2]; · iexact Hxr2
    iexact Hxr3
  ihave Hpr := (join4 c prcM _ _ _ _) $$ [Hpr0 Hpr1 Hpr2 Hpr3]
  · isplitl [Hpr0]; · iexact Hpr0
    isplitl [Hpr1]; · iexact Hpr1
    isplitl [Hpr2]; · iexact Hpr2
    iexact Hpr3
  ihave Hps := (join4 c psdM _ _ _ _) $$ [Hps0 Hps1 Hps2 Hps3]
  · isplitl [Hps0]; · iexact Hps0
    isplitl [Hps1]; · iexact Hps1
    isplitl [Hps2]; · iexact Hps2
    iexact Hps3
  iapply (fupd_step c _)
  iapply Hk
  isplitl [HO]; · iexact HO
  isplitl [Hbar Hp0 Hp1 Hp2 Hp3 Hp4 Hp5 Hp6 Hp7 Hp8 Hp9 Hp10 Hp11 Hp12 Hp13 Hp14 Hp15 Hp16 Hp17 Hp18 Hp19 Hp20]
  · isplitl [Hbar]; · iexact Hbar
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hp17]; · iexact Hp17
    isplitl [Hp18]; · iexact Hp18
    isplitl [Hp19]; · iexact Hp19
    iexact Hp20
  isplitl [HxH HuH HvH]
  · isplitl [HxH]; · iexact HxH
    isplitl [HuH]; · iexact HuH
    iexact HvH
  isplitl [Hms Hmn Hout]
  · isplitl [Hms]; · iexact Hms
    isplitl [Hmn]; · iexact Hmn
    iexact Hout
  isplitl [Hx]; · iexists _; iexact Hx
  isplitl [Hu]; · iexists _; iexact Hu
  isplitl [Hv]; · iexists _; iexact Hv
  isplitl [Hsd]; · iexact Hsd
  isplitl [Hxr]; · iexact Hxr
  isplitl [Hmr]; · iexists _; iexact Hmr
  isplitl [Hpr]; · iexact Hpr
  iexact Hps

end Cert.KernelIdeal.Talk

end
-- ==== Proof.Ideal.Data.lean ====
/-
  The kernel region's windows: what the staging buffers and the arrays hold around its one grid point.
-/
module

public import proofs.«01_k».proof.Proof.Ideal.Body
public import proofs.«01_k».proof.Proof.Gen.KernelIdeal.Regions
public import Idealize.ShloMosaic.Lib.Pipeline.RegionTalk
public import Idealize.ShloMosaic.Lib.Pipeline.Value
public import Idealize.ShloMosaic.Lib.Pipeline.FrameBody

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (V : Dev nD → Valuation τ sig (Elt F)) (c : Dev nD)

/-- Before the body: the conversation's resources, the arguments it copies in, the room, and the generator register. -/
def start : sProp 𝕄 :=
  iprop((∃ K, ctx V K c) ∗ hand c ∗ kit c ∗ ins V c ∗ room c ∗ ∃ r, prngReg c r)
/-- After it: every counter at zero, and the rest as it was. -/
def done : sProp 𝕄 :=
  iprop(semVal (barCell c) 0 ∗ (bigSep (Finset.univ : Finset (Fin 21)) fun k => semVal (cell c k) 0) ∗ ins V c ∗ room c ∗ ∃ r, prngReg c r)

/-- The region's proof data. -/
def dat : Pipeline.Dat τ (Elt F) Unit ℕ UU ℕ cfg0 c where
  A := fun | 0 => V c main_v14 | 1 => V c main_v24 | 2 => V c main_v25 | ⟨_ + 3, h⟩ => absurd h (Nat.not_lt.2 (Nat.le_add_left _ _))
  after := fun | 0 => fun _ => V c main_v14 | 1 => fun _ => V c main_v24 | 2 => fun _ => o4 V c | ⟨_ + 3, h⟩ => absurd h (Nat.not_lt.2 (Nat.le_add_left _ _))
  Φ t := if t.val = 0 then start V c else done V c
  q _ := fullShare
  owed t := if t.val = 0 then due c 10 else 0

theorem dat_first (t : Fin cfg0.N) : (dat V c).Φ t.castSucc = start V c := by
  obtain rfl := fin_N0 t
  show (if (t0_0.castSucc : Fin (cfg0.N + 1)).val = 0 then start V c else done V c) = start V c
  exact if_pos rfl
theorem dat_last (t : Fin cfg0.N) : (dat V c).Φ t.succ = done V c := by
  obtain rfl := fin_N0 t
  show (if (t0_0.succ : Fin (cfg0.N + 1)).val = 0 then start V c else done V c) = done V c
  exact if_neg (by decide)
theorem owed_first (t : Fin cfg0.N) : (dat V c).owed t.castSucc = due c 10 := by
  obtain rfl := fin_N0 t
  show (if (t0_0.castSucc : Fin (cfg0.N + 1)).val = 0 then due c 10 else 0) = due c 10
  exact if_pos rfl
theorem owed_last (t : Fin cfg0.N) : (dat V c).owed t.succ = 0 := by
  obtain rfl := fin_N0 t
  show (if (t0_0.succ : Fin (cfg0.N + 1)).val = 0 then due c 10 else 0) = 0
  exact if_neg (by decide)

/-- A block that is the whole array begins at its first element. -/
theorem blk_at {s : Shape} (y : s.Idx) (a : Fin s.rank) : 0 * s.size a + 1 * (y a).val = (y a).val := by
  rw [Nat.zero_mul, Nat.zero_add, Nat.one_mul]

theorem before_0 (t : Fin cfg0.N) (d) : (dat V c).before 0 t d = V c main_v14 := by
  obtain rfl := fin_N0 t
  rw [Dat.before_fetched _ 0 t0_0 (fetch0_0 _) d]
  unfold Dat.fetched
  refine (show _ = (dat V c).blockOf 0 t0_0 from rfl).trans ?_
  unfold Dat.blockOf
  funext y
  exact congrArg (V c main_v14) (funext fun a => Fin.ext (blk_at y a))
theorem before_1 (t : Fin cfg0.N) (d) : (dat V c).before 1 t d = V c main_v24 := by
  obtain rfl := fin_N0 t
  rw [Dat.before_fetched _ 1 t0_0 (fetch0_1 _) d]
  unfold Dat.fetched
  refine (show _ = (dat V c).blockOf 1 t0_0 from rfl).trans ?_
  unfold Dat.blockOf
  funext y
  exact congrArg (V c main_v24) (funext fun a => Fin.ext (blk_at y a))

theorem flushed_2 (t : Fin cfg0.N) : (dat V c).flushed 2 t = ((cfg0.win 2).blk t).view.read (Elt F) (o4 V c) := by
  obtain rfl := fin_N0 t
  unfold Dat.flushed
  funext y
  exact congrArg (o4 V c) (funext fun a => Fin.ext (blk_at y a).symm)

theorem cover_2 (i : S512x512.Idx) : ∃ t : Fin cfg0.N, (cfg0.win 2).flush t = true ∧ i ∈ ((cfg0.win 2).blk t).view.set := by
  refine ⟨t0_0, flush0_2 _, ?_⟩
  show i ∈ ((View.whole main_v25).slice (win0_2.rect t0_0)).set
  rw [View.set_slice_whole, Rect.mem_set_unit]
  intro a
  have e : ∀ a, win0_2.kind.off (win0_2.index t0_0 a) (win0_2.size a) = 0 ∧ win0_2.xsize (grid0.coords t0_0) a = S512x512.size a := by decide +kernel
  exact ⟨by rw [(e a).1]; exact Nat.zero_le _, by rw [(e a).1, (e a).2, Nat.zero_add]; exact (i a).isLt⟩

theorem final_2 : (dat V c).arrAt 2 cfg0.N = o4 V c :=
  (dat V c).arrAt_eq_of_cover 2 (o4 V c) (fun t _ => flushed_2 V c t) cover_2

end Cert.KernelIdeal.Talk

end
-- ==== Proof.Ideal.Obl.lean ====
/-
  The kernel region's body obligation: the body run, then every cell closed.
-/
module

public import proofs.«01_k».proof.Proof.Ideal.Data

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (V : Dev nD → Valuation τ sig (Elt F)) (K : GSem nD τ sig → ℕ) (c : Dev nD)

/-- A whole buffer at contents `f`, in the ways it is said. -/
theorem pts_has (b : Ref sig .tc) (f : Buf (Elt F) ((c : Thread nD τ).loc b)) :
    (((c : Thread nD τ).loc b) ↦{fullShare} f : sProp 𝕄) = has c (Memref.whole b) f := by
  show (((c : Thread nD τ).loc b) ↦{fullShare} f : sProp 𝕄) = ((View.whole b).loc (c : Thread nD τ) ↦[(View.whole b).set]{fullShare} f)
  rw [View.set_whole]

theorem owns_has (b : Ref sig .tc) (f : b.ty.Contents (Elt F)) :
    (owns (c : Thread nD τ) (Memref.whole b) fullShare f : sProp 𝕄) = has c (Memref.whole b) f := by
  rw [owns_whole]
  exact pts_has c b f
/-- Every round over, every cell is closed and its counter back at zero. -/
theorem shut : iprop(recs V K ∗ over c)
    ⊢ (|={Set.univ}=> iprop(semVal (barCell c) 0 ∗ bigSep (Finset.univ : Finset (Fin 21)) fun k => semVal (cell c k) 0) : sProp 𝕄) := by
  unfold over
  iintro ⟨#HR, Hb, Hk⟩
  imod (Rounds.cell_close ER (Rd V) (Set.mem_univ (K (barCell c))) id (duties_later V (barCell c))) $$ [Hb] with Hb0
  · isplitr; · iapply (recs_bar V K c); iexact HR
    iexact Hb
  imod (Rounds.cells_close ER (Rd V) (Finset.univ : Finset (Fin 21)) (fun k => cell c k) (fun k => K (cell c k)) (Es := Set.univ)
      (fun k _ => Set.mem_univ _) (fun k _ => id) (fun _ => 1) (fun k _ => duties_later V (cell c k))) $$ [Hk] with Hk0
  · iapply (bigSep_with_persistent (R := recs V K) (Φ := fun k : Fin 21 => past c k)
      (Ψ := fun k : Fin 21 => iprop(cellInv ER (Rd V) (K (cell c k)) (cell c k) ∗ atPos ER (cell c k) 1 ∅ 0)) fun k _ => by
        unfold past
        iintro ⟨#H, Hp⟩
        isplitr; · iapply (recs_cell V K c k); iexact H
        iexact Hp)
    isplitr; · iexact HR
    iexact Hk
  imodintro
  isplitl [Hb0]; · iexact Hb0
  iexact Hk0

theorem owesAt_intro (t : Fin (cfg0.N + 1)) (n : ℕ) (h0 : (dat V c).owed t = due c n) :
    (owing c n : sProp 𝕄) ⊢ ((dat V c).owesAt () t : sProp 𝕄) := by
  unfold owing Dat.owesAt Pipeline.owesWithin Dat.bound
  rw [h0]
  iintro ⟨%W, HO⟩
  iexists W
  isplitr; · ipureintro; exact fun _ _ => Or.inl trivial
  iexact HO
theorem owesAt_elim (t : Fin (cfg0.N + 1)) (n : ℕ) (h0 : (dat V c).owed t = due c n) :
    ((dat V c).owesAt () t : sProp 𝕄) ⊢ (owing c n : sProp 𝕄) := by
  unfold owing Dat.owesAt Pipeline.owesWithin
  rw [h0]
  iintro ⟨%W, -, HO⟩
  iexists W
  iexact HO

theorem stage_0 (X : S512x2.Idx → Elt F .f32) :
    (owns (c : Thread nD τ) ((cfg0.win 0).stage (cfg0.slots t0_0 0)) fullShare X : sProp 𝕄) = has c msM X :=
  owns_has c cc0_stg0_0 X
theorem stage_1 (X : S512x2.Idx → Elt F .bf16) :
    (owns (c : Thread nD τ) ((cfg0.win 1).stage (cfg0.slots t0_0 1)) fullShare X : sProp 𝕄) = has c mnM X :=
  owns_has c cc0_stg1_0 X
theorem stage_2 (X : S512x512.Idx → Elt F .f32) :
    (owns (c : Thread nD τ) ((cfg0.win 2).stage (cfg0.slots t0_0 2)) fullShare X : sProp 𝕄) = has c outM X :=
  owns_has c cc0_stg2_0 X

/-- The body obligation. -/
theorem body_obl : BodyObligation (dat V c) (defs₀ (F := F)) 𝒱₀ () Set.univ := fun t => by
  obtain rfl := fin_N0 t
  rw [bigSep_W0, bigSep_W0, dat_first, dat_last]
  have ha0 : (dat V c).after 0 t0_0 = V c main_v14 := rfl
  have ha1 : (dat V c).after 1 t0_0 = V c main_v24 := rfl
  have ha2 : (dat V c).after 2 t0_0 = o4 V c := rfl
  rw [ha0, ha1, ha2]
  unfold start
  iintro ⟨⟨⟨%K, #HC⟩, Hh, Hkit, Hin, Hroom, Hreg⟩, HO, ⟨%d0, H0⟩, ⟨%d1, H1⟩, ⟨%d2, H2⟩⟩
  rw [before_0, before_1]
  ihave H0 := (Entails.of_eq (stage_0 c _)) $$ H0
  ihave H1 := (Entails.of_eq (stage_1 c _)) $$ H1
  ihave H2 := (Entails.of_eq (stage_2 c _)) $$ H2
  ihave HO := (owesAt_elim V c _ 10 (owed_first V c t0_0)) $$ HO
  iapply (body_run V K c)
  isplitr [Hreg]
  · isplitr; · iexact HC
    isplitl [HO]; · iexact HO
    isplitl [Hh]; · iexact Hh
    isplitl [Hkit]; · iexact Hkit
    isplitl [Hin]; · iexact Hin
    isplitl [H0 H1 H2]
    · isplitl [H0]; · iexact H0
      isplitl [H1]; · iexact H1
      iexists _; iexact H2
    iexact Hroom
  iintro ⟨HO, Hov, Hin, ⟨H0, H1, H2⟩, Hroom⟩
  imod (shut V K c) $$ [Hov] with ⟨Hb, Hs⟩
  · isplitr; · iapply (ctx_recs V K c); iexact HC
    iexact Hov
  imodintro
  unfold done
  isplitl [Hb Hs Hin Hroom Hreg]
  · isplitl [Hb]; · iexact Hb
    isplitl [Hs]; · iexact Hs
    isplitl [Hin]; · iexact Hin
    isplitl [Hroom]; · iexact Hroom
    iexact Hreg
  isplitl [HO]; · iapply (owesAt_intro V c t0_0.succ 0 (owed_last V c t0_0)); iexact HO
  isplitl [H0]; · iapply (Entails.of_eq (stage_0 c _).symm); iexact H0
  isplitl [H1]; · iapply (Entails.of_eq (stage_1 c _).symm); iexact H1
  iapply (Entails.of_eq (stage_2 c _).symm); iexact H2

end Cert.KernelIdeal.Talk

end
-- ==== Proof.Ideal.Region.lean ====
/-
  The kernel region as a segment of the program: what it is entered with, and what it leaves.
-/
module

public import proofs.«01_k».proof.Proof.Ideal.Obl

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The buffers at the end: as the host stretch left them, with the result block in its place. -/
abbrev Vend (c : Dev nD) : Valuation τ sig (Elt F) := Function.update (V1 m c) main_v25 (o4 (V1 m) c)

theorem Vend_res (c : Dev nD) : Vend m c main_v25 = o4 (V1 m) c := Function.update_self _ _ _
theorem Vend_of (c : Dev nD) (b : DevRef τ sig) (h : b ≠ (main_v25 : Ref sig .tc)) : Vend m c b = V1 m c b :=
  Function.update_of_ne h _ _

/-! ## The conversation's resources -/

/-- Two families held beside each other are the family of pairs. -/
theorem both {M I : Type} [URA M] [Fintype I] {Φ Ψ : I → sProp M} :
    iprop(bigSep Finset.univ Φ ∗ bigSep Finset.univ Ψ) ⊢ bigSep Finset.univ (fun i => iprop(Φ i ∗ Ψ i)) :=
  Entails.of_eq (bigSep_sep' _ _ _).symm
theorem apart {M I : Type} [URA M] [Fintype I] {Φ Ψ : I → sProp M} :
    bigSep Finset.univ (fun i => iprop(Φ i ∗ Ψ i)) ⊢ iprop(bigSep Finset.univ Φ ∗ bigSep Finset.univ Ψ) :=
  Entails.of_eq (bigSep_sep' _ _ _)

/-- The rights to pay: a device's own copies and sends, and its partner's arrivals. -/
def toks (c : Dev nD) : sProp 𝕄 :=
  iprop((bigSep (Finset.univ : Finset (Fin 3)) fun i => tok c (i.castLE (by decide)))
    ∗ (bigSep (Finset.univ : Finset (Fin 9)) fun j => tok c (sd j)) ∗ bigSep (Finset.univ : Finset (Fin 9)) fun j => tok (pr c) (rk j))
/-- The credit for what the partner will pay. -/
def creds (c : Dev nD) : sProp 𝕄 :=
  iprop(cred (tallyAt (barCell c) () 1) ∗ bigSep (Finset.univ : Finset (Fin 9)) fun j => cred (tallyAt (cell c (rk j)) () (damt (rk j))))
/-- A device's end of the handshake. -/
def shake (c : Dev nD) : sProp 𝕄 :=
  iprop(dutyTok ER (barCell (pr c)) 0 () ∗ reached ER (barCell (pr c)) 0 ∗ atPos ER (barCell c) 0 ∅ 0)

/-- What a device carries from the launch to the kernel. -/
def Tk (V : Dev nD → Valuation τ sig (Elt F)) (c : Dev nD) : sProp 𝕄 :=
  iprop((∃ K, recs V K) ∗ shake c ∗ (bigSep (Finset.univ : Finset (Fin 21)) fun k => openTok ER (cell c k)) ∗ toks c ∗ creds c)
/-- The same once its own cells are open. -/
def Xk (V : Dev nD → Valuation τ sig (Elt F)) (c : Dev nD) : sProp 𝕄 := iprop((∃ K, ctx V K c) ∗ hand c ∗ kit c)

/-- The cells of a device, by what they are for. -/
theorem split21 {M : Type} [URA M] (Φ : Fin 21 → sProp M) :
    bigSep (Finset.univ : Finset (Fin 21)) Φ ⊢ iprop((bigSep (Finset.univ : Finset (Fin 3)) fun i => Φ (i.castLE (by decide)))
      ∗ (bigSep (Finset.univ : Finset (Fin 9)) fun j => Φ (sd j)) ∗ bigSep (Finset.univ : Finset (Fin 9)) fun j => Φ (rk j)) := by
  rw [bigSep_eq_bigSepL_of_eq [0, 1, 2, 3, 4, 5, 6, 7, 8, 9, 10, 11, 12, 13, 14, 15, 16, 17, 18, 19, 20] (by decide) (by decide),
    bigSep_eq_bigSepL_of_eq [0, 1, 2] (by decide) (by decide), bigSep_eq_bigSepL_of_eq [0, 1, 2, 3, 4, 5, 6, 7, 8] (by decide) (by decide),
    bigSep_eq_bigSepL_of_eq [0, 1, 2, 3, 4, 5, 6, 7, 8] (by decide) (by decide)]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20)
    ⊢ iprop((Φ 0 ∗ Φ 1 ∗ Φ 2) ∗ (Φ 3 ∗ Φ 4 ∗ Φ 5 ∗ Φ 6 ∗ Φ 7 ∗ Φ 8 ∗ Φ 9 ∗ Φ 10 ∗ Φ 11) ∗ (Φ 12 ∗ Φ 13 ∗ Φ 14 ∗ Φ 15 ∗ Φ 16 ∗ Φ 17 ∗ Φ 18 ∗ Φ 19 ∗ Φ 20))
  iintro ⟨H0, H1, H2, H3, H4, H5, H6, H7, H8, H9, H10, H11, H⟩
  isplitl [H0 H1 H2]
  · isplitl [H0]; · iexact H0
    isplitl [H1]; · iexact H1
    iexact H2
  isplitr [H]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact H

theorem kit_intro (c : Dev nD) :
    iprop(toks c ∗ (bigSep (Finset.univ : Finset (Fin 9)) fun j => cred (tallyAt (cell c (rk j)) () (damt (rk j))))
      ∗ bigSep (Finset.univ : Finset (Fin 21)) fun k => atPos ER (cell c k) 0 ∅ 0) ⊢ (kit c : sProp 𝕄) := by
  unfold toks kit
  iintro ⟨⟨Ht0, Ht1, Ht2⟩, Hc, Ha⟩
  ihave Ha := (split21 (fun k => (atPos ER (cell c k) 0 ∅ 0 : sProp 𝕄))) $$ Ha
  icases Ha with ⟨Ha0, Ha1, Ha2⟩
  isplitl [Ht0 Ha0]
  · iapply both
    isplitl [Ht0]; · iexact Ht0
    iexact Ha0
  isplitl [Ht1 Ht2 Ha1]
  · iapply (both (Φ := fun j : Fin 9 => tok c (sd j)) (Ψ := fun j : Fin 9 => iprop(tok (pr c) (rk j) ∗ atPos ER (cell c (sd j)) 0 ∅ 0)))
    isplitl [Ht1]; · iexact Ht1
    iapply both
    isplitl [Ht2]; · iexact Ht2
    iexact Ha1
  iapply (both (Φ := fun j : Fin 9 => cred (tallyAt (cell c (rk j)) () (damt (rk j)))) (Ψ := fun j : Fin 9 => atPos ER (cell c (rk j)) 0 ∅ 0))
  isplitl [Hc]; · iexact Hc
  iexact Ha2

/-- The kernel's own semaphores. -/
abbrev osem (k : Fin 21) : SemLoc sig := .dma (dsem k)

theorem hopen (V : Dev nD → Valuation τ sig (Elt F)) (c : Dev nD) :
    iprop(Tk V c ∗ Pipeline.ownSems0 osem c ∗ levAts L lv) ⊢ (|={Set.univ}=> Xk V c : sProp 𝕄) := by
  unfold Tk Xk shake creds Pipeline.ownSems0 hand
  iintro ⟨⟨⟨%K, #HR⟩, ⟨Htb, #Hrb, Hab⟩, Hop, Htk, ⟨Hcb, Hcr⟩⟩, Hs, #Hl⟩
  imod (Rounds.cells_open ER (Rd V) (Finset.univ : Finset (Fin 21)) (fun k => cell c k) (fun k => K (cell c k)) (Es := Set.univ)
      (fun k _ => Set.mem_univ _)) $$ [Hop Hs] with Hat
  · isplitl [Hop]
    · iapply (bigSep_with_persistent (R := recs V K) (Φ := fun k : Fin 21 => openTok ER (cell c k))
        (Ψ := fun k : Fin 21 => iprop(cellInv ER (Rd V) (K (cell c k)) (cell c k) ∗ openTok ER (cell c k))) fun k _ => by
          iintro ⟨#H, Hp⟩
          isplitr; · iapply (recs_cell V K c k); iexact H
          iexact Hp)
      isplitr; · iexact HR
      iexact Hop
    iexact Hs
  ihave Hat := (apart (Φ := fun k => (atPos ER (cell c k) 0 ∅ 0 : sProp 𝕄)) (Ψ := fun k => (reached ER (cell c k) 0 : sProp 𝕄))) $$ Hat
  icases Hat with ⟨Hat, #Hre⟩
  imodintro
  isplitr
  · iexists K
    unfold ctx
    isplitr; · iexact HR
    isplitr; · iexact Hl
    iexact Hre
  isplitl [Htb Hcb Hab]
  · isplitl [Htb]; · iexact Htb
    isplitr; · iexact Hrb
    isplitl [Hcb]; · iexact Hcb
    iexact Hab
  iapply (kit_intro c)
  isplitl [Htk]; · iexact Htk
  isplitl [Hcr]; · iexact Hcr
  iexact Hat

/-! ## The buffers -/

/-- The arguments the kernel addresses itself. -/
abbrev Hs : Finset (DevRef τ sig) := {Proc.devRef .tc main_arg0, Proc.devRef .tc main_arg2, Proc.devRef .tc main_arg3}
/-- All unscoped buffers but the staged arrays. -/
abbrev Sr : Finset (DevRef τ sig) := Pipeline.ucRefs τ sig \ Pipeline.arrRefs (τ := τ) spec0
theorem Hs_sub : Hs ⊆ Sr := by decide

theorem held_ins (V : Dev nD → Valuation τ sig (Elt F)) (c : Dev nD) :
    (StableHlo.held (c : Thread nD τ) Hs (V c) : sProp 𝕄) = ins V c := by
  unfold StableHlo.held ins
  rw [bigSep_eq_bigSepL_of_eq [Proc.devRef .tc main_arg0, Proc.devRef .tc main_arg2, Proc.devRef .tc main_arg3] (by decide) (by decide),
    ← pts_has, ← pts_has, ← pts_has]
  rfl

theorem room_eq (c : Dev nD) : (Pipeline.scopedRest (Ix := Unit) (Name := ℕ) (U := UU) (Lvl := ℕ) (Val := Elt F) spec0 c : sProp 𝕄) = room c := by
  rw [scopedRest0_eq]
  simp only [pts_has]
  rfl

theorem ins_congr (V V' : Dev nD → Valuation τ sig (Elt F)) (c : Dev nD) (h : ∀ b ∈ Hs, V' c b = V c b) :
    (StableHlo.held (c : Thread nD τ) Hs (V' c) : sProp 𝕄) = ins V c :=
  (StableHlo.held_congr (c : Thread nD τ) h).trans (held_ins V c)

end Cert.KernelIdeal.Talk

end
-- ==== Proof.Ideal.Record.lean ====
/-
  The record of the kernel region, and the states before and after it.
-/
module

public import proofs.«01_k».proof.Proof.Ideal.Region

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev pdats (p : Fin 1) (c : Dev nD) : Pipeline.Dat τ (Elt F) Unit ℕ UU ℕ (cfgs p) c := dat (V1 m) c

theorem phi_zero (c : Dev nD) : (pdats m 0 c).Φ 0 = start (V1 m) c := dat_first (V1 m) c t0_0
theorem phi_last (c : Dev nD) : (pdats m 0 c).Φ (Fin.last _) = done (V1 m) c := dat_last (V1 m) c t0_0
theorem owed_zero (c : Dev nD) : (pdats m 0 c).owed 0 = due c 10 := owed_first (V1 m) c t0_0
theorem owed_end (c : Dev nD) : (pdats m 0 c).owed (Fin.last _) = 0 := owed_last (V1 m) c t0_0

theorem lvS_due : ∀ i < 10, 0 < lvS (dueSem i) := by decide

theorem cut : Pipeline.LevelCutOwed (pcfgs (F := F)) adm (pdats m) () L lv 0 (fun _ => 0) where
  hι c w s := by rw [L_tc]; exact Finset.mem_singleton_self _
  hιb c := (by decide : ∀ (w : Fin 3) (s : Fin (win0 w).nbuf), lvS (.dma ((win0 w).sem s)) ≤ 0)
  hD c t g i h := by
    have e : (pdats m 0 c).owed t = if t.val = 0 then due c 10 else 0 := rfl
    rw [e] at h
    split at h
    · obtain ⟨i, hi, rfl⟩ := due_pos h
      exact ⟨by rw [L_tc]; exact Finset.mem_singleton_self _, lvS_due i hi⟩
    · exact absurd h (Nat.lt_irrefl 0)

theorem hin (c : Dev nD) : iprop(Pipeline.scopedRest spec0 c ∗ (∃ r, prngReg c r) ∗ StableHlo.held (c.tc : Thread nD τ) Hs (V1 m c) ∗ Xk (V1 m) c)
    ⊢ ((pdats m 0 c).Φ 0 : sProp 𝕄) := by
  rw [phi_zero, room_eq, held_ins]
  unfold start Xk
  iintro ⟨Hr, Hp, Hi, HC, Hh, Hk⟩
  isplitl [HC]; · iexact HC
  isplitl [Hh]; · iexact Hh
  isplitl [Hk]; · iexact Hk
  isplitl [Hi]; · iexact Hi
  isplitl [Hr]; · iexact Hr
  iexact Hp

theorem Vend_off (c : Dev nD) : ∀ b ∈ Sr, Vend m c b = V1 m c b := fun b hb =>
  Vend_of m c b fun e => by
    subst e
    exact absurd hb (by decide)

theorem hout (c : Dev nD) : ((pdats m 0 c).Φ (Fin.last _) : sProp 𝕄)
    ⊢ iprop(Pipeline.scopedRest spec0 c ∗ (∃ r, prngReg c r) ∗ StableHlo.held (c.tc : Thread nD τ) Hs (Vend m c) ∗ Pipeline.ownSems0 osem c ∗ semVal (barCell c) 0) := by
  rw [phi_last, room_eq, ins_congr (V1 m) (Vend m) c fun b hb => Vend_off m c b (Hs_sub hb)]
  unfold done Pipeline.ownSems0
  iintro ⟨Hb, Hs, Hi, Hr, Hp⟩
  isplitl [Hr]; · iexact Hr
  isplitl [Hp]; · iexact Hp
  isplitl [Hi]; · iexact Hi
  isplitl [Hs]; · iexact Hs
  iexact Hb

theorem arr_start (c : Dev nD) : ∀ w : Fin 3, (pdats m 0 c).arrAt w 0 = V1 m c (Proc.devRef .tc (Pipeline.arrRef spec0 w))
  | 0 => rfl
  | 1 => rfl
  | 2 => rfl
theorem arr_end (c : Dev nD) : ∀ w : Fin 3, (pdats m 0 c).arrAt w cfg0.N = Vend m c (Proc.devRef .tc (Pipeline.arrRef spec0 w))
  | 0 => (Dat.arrAt_in _ 0 rfl _).trans (Vend_of m c main_v14 (by decide)).symm
  | 1 => (Dat.arrAt_in _ 1 rfl _).trans (Vend_of m c main_v24 (by decide)).symm
  | 2 => (final_2 (V1 m) c).trans (Vend_res m c).symm

set_option backward.isDefEq.respectTransparency.types false in
/-- The record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr Hs_sub launch0.toP rfl (fun c => (body_obl (V1 m) c).loose)
    (fun _ => 0) (fun c => due c 10) (fun c => (owed_zero m c).trans (zero_add _).symm) (owed_end m) (fun _ => rfl) (fun c w => ite_self _)
    (V1 m) (Vend m) (fun c b hb => Vend_off m c b (Finset.mem_sdiff.mp hb).1)
    (Tk (V1 m)) (fun c => semVal (barCell c) 0) (Xk (V1 m)) (fun c => semVal (barCell c) 0) (hopen (V1 m)) (hin m) (hout m)
    (fun c => by iintro H; imodintro; iexact H)
    (fun _ => 0) (cut m) (fun _ => iprop(emp)) (arr_start m) (arr_end m)

/-- What rides beside the buffers up to the kernel, -/
def before (c : Dev nD) : sProp 𝕄 := iprop(Tk (V1 m) c ∗ (∃ r, prngReg c r) ∗ owing c 10)
/-- and after it. -/
def afterwards (c : Dev nD) : sProp 𝕄 := iprop(semVal (barCell c) 0 ∗ owing c 0)

theorem arr_sub : Pipeline.arrRefs (τ := τ) spec0 ⊆ Pipeline.ucRefs τ sig := by decide

theorem reg_pre (c : Dev nD) : iprop(StableHlo.held (c : Thread nD τ) (Pipeline.ucRefs τ sig) (V1 m c) ∗ before m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk (V1 m) c ∗ ∃ Wd, owes (c : Thread nD τ) (0 + due c 10) Wd)
  rw [zero_add, StableHlo.held_sub_split (c.tc : Thread nD τ) arr_sub (V1 m c)]
  unfold before owing
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg_post (c : Dev nD) : (reg m).post c
    ⊢ iprop(StableHlo.held (c : Thread nD τ) (Pipeline.ucRefs τ sig) (Vend m c) ∗ afterwards c) := by
  show iprop(StableHlo.held (c.tc : Thread nD τ) (Pipeline.arrRefs (τ := τ) spec0) (Vend m c) ∗ (∃ r, prngReg c r)
    ∗ (StableHlo.held (c.tc : Thread nD τ) Sr (Vend m c) ∗ emp) ∗ semVal (barCell c) 0 ∗ ∃ Wd, owes (c : Thread nD τ) (0 : CellTallies nD τ sig Unit) Wd) ⊢ _
  rw [StableHlo.held_sub_split (c.tc : Thread nD τ) arr_sub (Vend m c)]
  unfold afterwards owing
  iintro ⟨Ha, -, ⟨Hs, -⟩, Hb, HO⟩
  isplitl [Ha Hs]
  · isplitl [Ha]; · iexact Ha
    iexact Hs
  isplitl [Hb]; · iexact Hb
  iexact HO

end Cert.KernelIdeal.Talk

end
-- ==== Proof.Ideal.Credit.lean ====
/-
  What the launch credits each device with: what its partner owes it.
-/
module

public import proofs.«01_k».proof.Proof.Ideal.Region

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Cert.KernelIdeal Cert.KernelIdeal.Gen

variable {F : FTy → Type} [FloatOps F]

local notation "𝕄" => MT nD τ sig Unit (Elt F) ℕ UU ℕ

/-- How often semaphore `s` is among the last `n` payments. -/
def times (n : ℕ) (s : SemLoc sig) : ℕ := ∑ i ∈ Finset.range n, if s = dueSem i then 1 else 0

theorem due_at (d c : Dev nD) (s : SemLoc sig) (n : ℕ) :
    due d n ((c : Thread nD τ), s) () = if d = pr c then times n s * amt s else 0 := by
  induction n with
  | zero => simp [due, times]
  | succ n ih =>
    unfold due
    rw [Pi.add_apply, Finsupp.add_apply, ih, tallyAt_apply]
    by_cases h : d = pr c
    · subst h
      rw [pr_pr, if_pos rfl, if_pos rfl]
      unfold times
      rw [Finset.sum_range_succ, Nat.add_mul]
      by_cases e : s = dueSem n
      · subst e
        rw [if_pos ⟨rfl, rfl⟩, if_pos rfl, Nat.one_mul]
      · rw [if_neg (fun h => e (congrArg Prod.snd h.1)), if_neg e, Nat.zero_mul]
    · rw [if_neg h, if_neg h, if_neg fun ⟨h1, _⟩ =>
        h (by rw [← pr_pr d]; exact congrArg pr (Fin.ext (congrArg (fun g : GSem nD τ sig => g.1.1.val) h1)).symm)]

/-- The launch credit at a semaphore that is paid once is the amount of that payment. -/
theorem launch_at (c : Dev nD) (s : SemLoc sig) (h : times 10 s = 1) :
    tallyOn ((c : Thread nD τ), s) (launchCredit (Pipeline.owing fun d => due d 10) 0 ((c : Thread nD τ), s))
      = (tallyAt ((c : Thread nD τ), s) () (amt s) : CellTallies nD τ sig Unit) := by
  unfold tallyAt
  refine congrArg _ (Finsupp.ext fun u => ?_)
  cases u
  rw [Pipeline.launchCredit_owing, Finsupp.single_eq_same, Finset.sum_congr rfl fun d _ => due_at d c s 10,
    Finset.sum_ite_eq' Finset.univ (pr c) fun _ => times 10 s * amt s, if_pos (Finset.mem_univ _), h, Nat.one_mul]

theorem once_bar : times 10 (.reg barS) = 1 := by decide
theorem once_dma : ∀ j : Fin 9, times 10 (.dma (dsem (rk j))) = 1 := by decide

/-- The semaphores a device receives on, as a family of distinct semaphores. -/
def arrivals : Fin 9 ↪ SemLoc sig := ⟨fun j => .dma (dsem (rk j)), by decide⟩
theorem arrivals_sub : Finset.univ.map arrivals ⊆ Finset.univ.erase (SemLoc.reg barS : SemLoc sig) := by decide

theorem creds_intro (c : Dev nD) : (Pipeline.launchCred (fun d => due d 10) c : sProp 𝕄) ⊢ creds c := by
  unfold Pipeline.launchCred creds
  rw [bigSep_univ_at _ (SemLoc.reg barS), launch_at c _ once_bar]
  refine sep_mono_right ((bigSep_subset arrivals_sub).trans ?_)
  rw [bigSep_map]
  refine bigSep_mono fun j _ => ?_
  exact Entails.of_eq (congrArg cred ((launch_at c (.dma (dsem (rk j))) (once_dma j)).trans (congrArg (tallyAt _ ()) (amt_dma (rk j)))))

end Cert.KernelIdeal.Talk

end
-- ==== Proof.Ideal.Launch.lean ====
/-
  The launch: every cell's invariant made, and what each device carries to the kernel dealt out.
-/
module

public import proofs.«01_k».proof.Proof.Ideal.Record
public import proofs.«01_k».proof.Proof.Ideal.Credit

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def barEmb : Dev nD ↪ GSem nD τ sig := ⟨fun c => barCell c, fun _ _ h => congrArg (fun g : GSem nD τ sig => g.1.1) h⟩
theorem osem_ne : ∀ k, osem k ≠ .reg barS := by decide
theorem osem_inj : Function.Injective osem := by decide
def scEmb : Dev nD × Fin 21 ↪ GSem nD τ sig :=
  ⟨fun p => cell p.1 p.2, fun _ _ h => Prod.ext (congrArg (fun g : GSem nD τ sig => g.1.1) h) (osem_inj (congrArg Prod.snd h))⟩
/-- The first payment on a cell. -/
def first : GSem nD τ sig ↪ GSem nD τ sig × ℕ × Unit := ⟨fun g => (g, 0, ()), fun _ _ h => congrArg Prod.fst h⟩

abbrev barCells : Finset (GSem nD τ sig) := Finset.univ.map barEmb
abbrev scCells : Finset (GSem nD τ sig) := Finset.univ.map scEmb
abbrev talkToks : Finset (GSem nD τ sig × ℕ × Unit) := (barCells ∪ scCells).map first

theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact osem_ne p.2 (congrArg Prod.snd h)

/-- A family over all cells, device by device. -/
theorem over_cells {M : Type} [URA M] (Φ : GSem nD τ sig → sProp M) :
    bigSep (barCells ∪ scCells) Φ = iprop((bigSep (Finset.univ : Finset (Dev nD)) fun c => Φ (barCell c))
      ∗ bigSep (Finset.univ : Finset (Dev nD × Fin 21)) fun p => Φ (cell p.1 p.2)) := by
  rw [bigSep_union disjoint_cells, bigSep_map, bigSep_map]
  rfl

/-- The launch element. -/
def u₀ : UU :=
  (initOf (Pipeline.cells cfgs cellOf_inj) (Pipeline.launchToks cfgs cellOf_inj), launchOf barCells scCells talkToks)

/-- A resource given whole to device 0. -/
def park (X : sProp 𝕄) (c : Dev nD) : sProp 𝕄 := if c = 0 then X else iprop(emp)
theorem park_all (X : sProp 𝕄) : bigSep Finset.univ (park X) = X := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park
  rw [if_pos rfl]
  exact BI.equiv_iff.mp sep_emp

abbrev G : Dev nD → sProp 𝕄 := park (BI.own (ER (launchOf barCells scCells talkToks)))

/-! ## Dealing -/

/-- What every device may consult. -/
def common (κ : GSem nD τ sig → ℕ) : sProp 𝕄 :=
  iprop(recs (V1 m) κ ∗ bigSep (Finset.univ : Finset (Dev nD)) fun c => reached ER (barCell c) 0)
instance common_persistent (κ : GSem nD τ sig → ℕ) : BI.Persistent (common m κ) := by unfold common; infer_instance

/-- What one device alone gets of the conversation's ghost state. -/
def share (c : Dev nD) : sProp 𝕄 :=
  iprop(dutyTok ER (barCell (pr c)) 0 () ∗ atPos ER (barCell c) 0 ∅ 0 ∗ (bigSep (Finset.univ : Finset (Fin 21)) fun k => openTok ER (cell c k)) ∗ toks c)
/-- And what the machine gives it. -/
def purse (c : Dev nD) : sProp 𝕄 :=
  iprop(StableHlo.held (c : Thread nD τ) (Pipeline.ucRefs τ sig) (V0 m c) ∗ creds c ∗ owing c 10 ∗ ∃ r, prngReg c r)

/-- The state before the host stretch. -/
abbrev T₀ (c : Dev nD) : sProp 𝕄 := iprop(StableHlo.held (c : Thread nD τ) (Pipeline.ucRefs τ sig) (V0 m c) ∗ before m c)

theorem reached_of (c : Dev nD) : (bigSep (Finset.univ : Finset (Dev nD)) fun c => reached ER (barCell c) 0) ⊢ (reached ER (barCell (pr c)) 0 : sProp 𝕄) :=
  BI.bigSep_elim (Finset.mem_univ (pr c))

theorem T₀_intro (κ : GSem nD τ sig → ℕ) (c : Dev nD) : iprop(common m κ ∗ (share c ∗ purse m c)) ⊢ T₀ m c := by
  unfold common share purse T₀ before Tk shake
  iintro ⟨⟨#HR, #Hb⟩, ⟨Ht, Ha, Ho, Hk⟩, Hh, Hc, HO, Hp⟩
  isplitl [Hh]; · iexact Hh
  isplitl [Ht Ha Ho Hk Hc]
  · isplitr; · iexists κ; iexact HR
    isplitl [Ht Ha]
    · isplitl [Ht]; · iexact Ht
      isplitr; · iapply (reached_of (F := F) c); iexact Hb
      iexact Ha
    isplitl [Ho]; · iexact Ho
    isplitl [Hk]; · iexact Hk
    iexact Hc
  isplitl [Hp]; · iexact Hp
  iexact HO

/-- The tokens, each handed to the device that pays with it. -/
theorem deal : bigSep talkToks (fun x => (dutyTok ER x.1 x.2.1 x.2.2 : sProp 𝕄))
    ⊢ iprop((bigSep (Finset.univ : Finset (Dev nD)) fun c => dutyTok ER (barCell (pr c)) 0 ()) ∗ bigSep (Finset.univ : Finset (Dev nD)) fun c => toks c) := by
  rw [bigSep_map]
  show bigSep (barCells ∪ scCells) (fun g => (dutyTok ER g 0 () : sProp 𝕄)) ⊢ _
  rw [over_cells, bigSep_univ_prod]
  refine BIClass.sep_mono (Entails.of_eq (bigSep_univ_equiv ring (fun c : Dev nD => (dutyTok ER (barCell c) 0 () : sProp 𝕄)))) ?_
  refine (bigSep_mono fun c _ => split21 (fun k => (tok c k : sProp 𝕄))).trans ?_
  unfold toks
  rw [bigSep_sep', bigSep_sep', bigSep_sep', bigSep_sep']
  refine Idealize.SL.BI.sep_mono (BI.Entails.refl _) ?_
  refine Idealize.SL.BI.sep_mono (BI.Entails.refl _) ?_
  exact Entails.of_eq (bigSep_univ_equiv ring (fun c : Dev nD => bigSep (Finset.univ : Finset (Fin 9)) fun j => (tok c (rk j) : sProp 𝕄)))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch deals a device, but for the parked resource and the barrier's counter. -/
theorem purse_intro (c : Dev nD) : iprop(unscopedBufs c (fun b => m ((c : Thread nD τ).loc b)) ∗ unscopedSems0 c
      ∗ owes (c : Thread nD τ) (due c 10) ∅ ∗ Pipeline.launchCred (fun d => due d 10) c ∗ prngReg c (ρ c) ∗ G c)
    ⊢ (iprop(purse m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold purse owing
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexists ∅; iexact HO
    iexists (ρ c); iexact Hp
  isplitl [Hus]; · iexact Hus
  iexact HG

theorem purses : (bigSep Finset.univ fun c : Dev nD => iprop(unscopedBufs c (fun b => m ((c : Thread nD τ).loc b)) ∗ unscopedSems0 c
      ∗ owes (c : Thread nD τ) (due c 10) ∅ ∗ Pipeline.launchCred (fun d => due d 10) c ∗ prngReg c (ρ c) ∗ G c))
    ⊢ (iprop((bigSep Finset.univ fun c => purse m c) ∗ (bigSep Finset.univ fun c : Dev nD => semVal (barCell c) 0) ∗ bigSep Finset.univ G) : sProp 𝕄) := by
  refine (bigSep_mono fun c _ => purse_intro m ρ c).trans ?_
  rw [bigSep_sep', bigSep_sep']
  exact BI.Entails.refl _

theorem init :
    iprop((bigSep Finset.univ fun c : Dev nD => iprop(unscopedBufs c (fun b => m ((c : Thread nD τ).loc b)) ∗ unscopedSems0 c
          ∗ owes (c : Thread nD τ) (due c 10) ∅ ∗ Pipeline.launchCred (fun d => due d 10) c ∗ prngReg c (ρ c) ∗ G c)) ∗ levAts L lv)
      ⊢ (|={Set.univ}=> bigSep Finset.univ (T₀ m) : sProp 𝕄) := by
  iintro ⟨H, -⟩
  ihave H := (purses m ρ) $$ H
  icases H with ⟨HB, Hv, HG⟩
  ihave Hu := (Entails.of_eq (park_all (F := F) (BI.own (ER (launchOf barCells scCells talkToks))))) $$ HG
  imod (Rounds.fund_launch ER (Rd (V1 m)) disjoint_cells (fun g _ h => h) talkToks) $$ [Hv Hu] with ⟨%κ, -, #Hinv, #Hr, Hat, Hopen, Htok⟩
  · isplitl [Hv]
    · rw [bigSep_map]; iexact Hv
    · iexact Hu
  imodintro
  iapply (bigSep_with_persistent (R := common m κ) (Φ := fun c => iprop(share c ∗ purse m c)) fun c _ => T₀_intro m κ c)
  isplitr
  · unfold common recs
    isplitr
    · iapply (Entails.of_eq (over_cells (fun g => (cellInv ER (Rd (V1 m)) (κ g) g : sProp 𝕄)))); iexact Hinv
    · iapply (Entails.of_eq (bigSep_map (s := Finset.univ) barEmb (Φ := fun g : GSem nD τ sig => (reached ER g 0 : sProp 𝕄)))); iexact Hr
  iapply both
  isplitr [HB]
  · ihave Htok := (deal (F := F)) $$ Htok
    icases Htok with ⟨Hb, Ht⟩
    unfold share
    iapply (both (Φ := fun c : Dev nD => (dutyTok ER (barCell (pr c)) 0 () : sProp 𝕄)))
    isplitl [Hb]; · iexact Hb
    iapply both
    isplitl [Hat]
    · iapply (Entails.of_eq (bigSep_map (s := Finset.univ) barEmb (Φ := fun g : GSem nD τ sig => (atPos ER g 0 ∅ 0 : sProp 𝕄)))); iexact Hat
    iapply both
    isplitl [Hopen]
    · iapply (Entails.of_eq ((bigSep_map (s := Finset.univ) scEmb (Φ := fun g : GSem nD τ sig => (openTok ER g : sProp 𝕄))).trans (bigSep_univ_prod _))); iexact Hopen
    iexact Ht
  · iexact HB

end Cert.KernelIdeal.Talk

end
-- ==== Proof.Ideal.Run.lean ====
/-
  The run of every device from the launch to the end.
-/
module

public import proofs.«01_k».proof.Proof.Ideal.Launch

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What goes with the held buffers through the two segments. -/
def rest : Fin 2 → Dev nD → sProp 𝕄
  | 0 => before m
  | 1 => afterwards

/-- What each device ends with: every unscoped buffer at its last contents, and the barrier's counter at zero. -/
abbrev Tₙ (c : Dev nD) : sProp 𝕄 :=
  iprop(StableHlo.held (c : Thread nD τ) (Pipeline.ucRefs τ sig) (Vend m c) ∗ semVal (barCell c) 0)

theorem unscoped_bar : ∀ sm : SemLoc sig, sm.isScoped .tc = false → sm = .reg barS := by decide

theorem at_end (c : Dev nD) : (reg m).post c ⊢ (iprop(Tₙ m c ∗ ∃ W, owes (c : Thread nD τ) (0 : CellTallies nD τ sig Unit) W) : sProp 𝕄) := by
  refine (reg_post m c).trans ?_
  unfold afterwards owing
  iintro ⟨Hh, Hb, HO⟩
  isplitr [HO]
  · isplitl [Hh] <;> iassumption
  · iexact HO

theorem parts_of_u₀ : (ownU u₀ : sProp 𝕄) ⊢ |={Set.univ}=> iprop(BI.own (EP (initOf (Pipeline.cells cfgs cellOf_inj) (Pipeline.launchToks cfgs cellOf_inj)))
    ∗ bigSep Finset.univ G) := by
  unfold u₀ G
  iintro Hu
  ihave H := (ownU_pair _ _) $$ Hu
  icases H with ⟨HP, HX⟩
  imodintro
  isplitl [HP]; · iexact HP
  rw [park_all]; iexact HX

/-- An unscoped buffer of the device, as a member of the held ones. -/
theorem held_mem (b : Ref sig .tc) (h : ¬ b.isScoped = true) : Proc.devRef .tc b ∈ Pipeline.ucRefs τ sig :=
  Finset.mem_filter.mpr ⟨StableHlo.devRef_mem_tcRefs b, h⟩

set_option backward.isDefEq.respectTransparency.types false in
/-- From any memory with every counter at zero, every device ends with its arguments as they began, the result holding
    the kernel's contents, and every counter at zero. -/
theorem run_all :
    θ_run defs (onTc (τ := τ) (main (F := F))) ⟨m, fun _ => 0, ρ⟩ (fun r =>
      (∀ c : Dev nD, r.2.mem ((c.tc : Thread nD τ).loc main_v25) = o4 (V1 m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) := by
  refine Pipeline.θ_run_regions_kit_dev_sems (pcfgs (F := F)) adm (pdats m) () cellOf_inj EP defs₀ 𝒱₀ L lv m ρ main
    (segs m 𝒱₀ L lv (rest m) () (pdats m) (reg m))
    (fun c Q => by
      rewrite [main_chain c, Seg.run_eq_chain,
        show (segs m 𝒱₀ L lv (rest m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (fun d => due d 10) L_of_ne G u₀ parts_of_u₀
    (T₀ := T₀ m) (Tₙ := Tₙ m)
    (hch := fun c => ⟨.rfl, reg_pre m c, at_end m c⟩)
    (hinit := init m ρ)
    (QY := fun c s => (∀ b : Ref sig .tc, ¬ b.isScoped = true → s.mem ((c.tc : Thread nD τ).loc b) = Vend m c b) ∧ s.sem (barCell c) = 0)
    (hfin := fun c s' => ?_) (hQ := fun s h hs => ⟨fun c => ?_, sem_eq_zero hs fun c sm hsm => ?_⟩)
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨fun b hb => h (Proc.devRef .tc b) (held_mem b hb), by simpa using hb⟩
    · iexact HSI
  · obtain ⟨h, -⟩ := h c
    have arg (b : Ref sig .tc) (hb : ¬ b.isScoped = true) (hne : (b : DevRef τ sig) ≠ (main_v25 : Ref sig .tc)) (hw : b ∉ hostOps0_W) :
        s.mem ((c.tc : Thread nD τ).loc b) = m ((c.tc : Thread nD τ).loc b) :=
      (h b hb).trans ((Vend_of m c b hne).trans (V1_of m c b hw))
    exact ⟨(h main_v25 (by decide)).trans (Vend_res m c), arg main_arg0 (by decide) (by decide) (by decide),
      arg main_arg1 (by decide) (by decide) (by decide), arg main_arg2 (by decide) (by decide) (by decide),
      arg main_arg3 (by decide) (by decide) (by decide)⟩
  · obtain rfl := unscoped_bar sm hsm
    exact (h c).2

end Cert.KernelIdeal.Talk

end
-- ==== Proof.Value.Ffn.lean ====
/-
  The kernel's block of arithmetic at extended reals, read element by element as two masked experts.
-/
module

public import proofs.«01_k».proof.Proof.Ideal.Base
public import Idealize.ShloMosaic.Lib.Pointwise

@[expose] public section

noncomputable section

namespace Cert.KernelIdeal.Talk

open Idealize.ShloMosaic
open Idealize.ShloMosaic.TcCoe
open Cert.KernelIdeal Cert.KernelIdeal.Gen

/-- One expert on one token, one column of its output: the first product, the relu, the second product. -/
def expert (x : Fin 512 → EReal) (W : Fin 512 → Fin 1024 → EReal) (U : Fin 1024 → EReal) : EReal :=
  ∑ k, max (∑ j, x j * W j k) 0 * U k

/-- A token times a mask of zero gives the expert nothing to say. -/
theorem expert_off (x : Fin 512 → EReal) (W : Fin 512 → Fin 1024 → EReal) (U : Fin 1024 → EReal) :
    expert (fun j => x j * 0) W U = 0 := by
  simp [expert]

/-- A token times a mask of one is the token. -/
theorem expert_on (x : Fin 512 → EReal) (W : Fin 512 → Fin 1024 → EReal) (U : Fin 1024 → EReal) :
    expert (fun j => x j * 1) W U = expert x W U := by
  simp [expert]

/-- Both of a device's experts on one token, each behind its mask. -/
def pair (x : Fin 512 → EReal) (m : Fin 2 → EReal) (W0 : Fin 512 → Fin 1024 → EReal) (U0 : Fin 1024 → EReal)
    (W1 : Fin 512 → Fin 1024 → EReal) (U1 : Fin 1024 → EReal) : EReal :=
  expert (fun j => x j * m 0) W0 U0 + expert (fun j => x j * m 1) W1 U1

set_option maxRecDepth 16384

theorem pay12_at (x : Vec Ideal S128x512 .bf16) (m : Vec Ideal S128x2 .bf16) (W0 : Vec Ideal S1x512x1024 .f32) (U0 : Vec Ideal S1x1024x512 .f32)
    (W1 : Vec Ideal S1x512x1024 .f32) (U1 : Vec Ideal S1x1024x512 .f32) (r : Fin 128) (l : Fin 512) :
    k0_pay12 x m W0 U0 W1 U1 (ix2 r l) = pair (fun j => x (ix2 r j)) (fun e => m (ix2 r e)) (fun j k => W0 (ix3 0 j k)) (fun k => U0 (ix3 0 k l))
      (fun j k => W1 (ix3 0 j k)) (fun k => U1 (ix3 0 k l)) := by
  pointwise [k0_pay12, pair, expert]

theorem pay19_at (x : Vec Ideal S512x512 .f32) (m : Vec Ideal S512x2 .f32) (W0 : Vec Ideal S1x512x1024 .f32) (U0 : Vec Ideal S1x1024x512 .f32)
    (W1 : Vec Ideal S1x512x1024 .f32) (U1 : Vec Ideal S1x1024x512 .f32) (r : Fin 512) (l : Fin 512) :
    k0_pay19 x m W0 U0 W1 U1 (ix2 r l) = pair (fun j => x (ix2 r j)) (fun e => m (ix2 r e)) (fun j k => W0 (ix3 0 j k)) (fun k => U0 (ix3 0 k l))
      (fun j k => W1 (ix3 0 j k)) (fun k => U1 (ix3 0 k l)) := by
  pointwise [k0_pay19, pair, expert]

variable (V : Dev nD → Valuation τ sig (Elt Ideal))

/-- Every band of a partial result is the same arithmetic on the band's rows, however its steps were stored. -/
theorem ps_at (c : Dev nD) (k : Fin 4) (r : Fin 128) (l : Fin 512) :
    ps V c k (ix2 r l) = pair (fun j => xw V c k (ix2 r j)) (fun e => mw V c k (ix2 r e)) (fun j k => wa0 V c (ix3 0 j k)) (fun k => wb0 V c (ix3 0 k l))
      (fun j k => wa1 V c (ix3 0 j k)) (fun k => wb1 V c (ix3 0 k l)) := by
  match k with
  | 0 => show k0_pay6 _ _ _ _ _ _ _ _ = _; pointwise [k0_pay2, k0_pay3, k0_pay4, k0_pay5, k0_pay6, pair, expert]
  | 1 => show k0_pay11 _ _ _ _ = _; pointwise [k0_pay7, k0_pay8, k0_pay9, k0_pay10, k0_pay11, pair, expert]
  | 2 => exact pay12_at ..
  | 3 => show k0_pay18 _ _ _ _ _ _ _ _ _ = _; pointwise [k0_pay13, k0_pay14, k0_pay15, k0_pay16, k0_pay17, k0_pay18, pair, expert]

end Cert.KernelIdeal.Talk

end
-- ==== Proof.Value.Rows.lean ====
/-
  The result block, element by element: a device's own experts on its row, plus its partner's experts on the same row.
-/
module

public import proofs.«01_k».proof.Proof.Value.Ffn

@[expose] public section

noncomputable section

namespace Cert.KernelIdeal.Talk

open Idealize.ShloMosaic
open Idealize.ShloMosaic.TcCoe
open Cert.KernelIdeal Cert.KernelIdeal.Gen

/-! ## Reading and writing a band of rows -/

variable (off : ℕ) (inb : ∀ a, (![off, 0] : Fin 2 → ℕ) a + S128x512.size a ≤ S512x512.size a)

theorem off_lt (r : Fin 128) (h : ∀ a, (![off, 0] : Fin 2 → ℕ) a + S128x512.size a ≤ S512x512.size a) : off + r.val < 512 := by
  have h : off + 128 ≤ 512 := h 0
  omega

/-- Where a band's row lies in the block. -/
theorem band_emb (r : Fin 128) (l : Fin 512) :
    (Rect.unit (s := S512x512) ![off, 0] S128x512.size inb).toLoadRect.idx (ix2 r l) = (ix2 ⟨off + r.val, off_lt off r inb⟩ l : S512x512.Idx) := by
  funext a
  refine Fin.ext ?_
  match a with
  | 0 => show off + 1 * r.val = off + r.val; omega
  | 1 => show 0 + 1 * l.val = l.val; omega

/-- Reading 128 rows of the result from row `off` on: row `r` of what is read is row `off + r`. -/
theorem band_out (f : S512x512.Idx → Elt Ideal .f32) (r : Fin 128) (l : Fin 512) :
    outM.view.readAt (Elt Ideal) (Rect.unit (s := S512x512) ![off, 0] S128x512.size inb).toLoadRect f (ix2 r l)
      = f (ix2 ⟨off + r.val, off_lt off r inb⟩ l) := by
  show f ((Rect.unit (s := S512x512) ![off, 0] S128x512.size inb).toLoadRect.idx (ix2 r l)) = _
  rw [band_emb]

/-- Storing 128 rows of the result from row `off` on: the stored row in the band, the old row elsewhere. -/
theorem put_out (f : S512x512.Idx → Elt Ideal .f32) (w : S128x512.Idx → Elt Ideal .f32) (r l : Fin 512) :
    (outM.access (Rect.unit (s := S512x512) ![off, 0] S128x512.size inb)).write (Elt Ideal) f w Finset.univ (ix2 r l)
      = if h : off ≤ r.val ∧ r.val < off + 128 then w (ix2 ⟨r.val - off, by omega⟩ l) else f (ix2 r l) := by
  split
  · next h =>
    have e : (outM.access (Rect.unit (s := S512x512) ![off, 0] S128x512.size inb)).emb (ix2 ⟨r.val - off, by omega⟩ l) = (ix2 r l : S512x512.Idx) := by
      show (Rect.unit (s := S512x512) ![off, 0] S128x512.size inb).toLoadRect.idx (ix2 ⟨r.val - off, by omega⟩ l) = _
      rw [band_emb]
      exact congrArg (fun r => ix2 r l) (Fin.ext (by show off + (r.val - off) = r.val; omega))
    rw [← e, View.write_emb_of_mem _ _ (Finset.mem_univ _)]
    rfl
  · next h =>
    refine View.write_of_not_mem _ _ _ fun hm => h ?_
    obtain ⟨x, -, hx⟩ := Finset.mem_map.mp hm
    have h0 : off + 1 * (x 0).val = r.val := congrArg (fun i : S512x512.Idx => (i 0).val) hx
    have := (x 0).isLt
    have h1 : (x 0).val < 128 := this
    omega

/-! ## What a band of the received rows and of the received mask is -/

variable (V : Dev nD → Valuation τ sig (Elt Ideal))

/-- The rows of `x` as launched. -/
def xAt (c : Dev nD) (r : Fin 512) (j : Fin 512) : EReal := (V c main_arg0 : S512x512.Idx → Elt Ideal .f32) (ix2 r j)
/-- The mask a device keeps for its own experts. -/
def keepAt (c : Dev nD) (r : Fin 512) (e : Fin 2) : EReal := (V c main_v14 : S512x2.Idx → Elt Ideal .f32) (ix2 r e)
/-- The mask a device sends to its partner's experts. -/
def sendAt (c : Dev nD) (r : Fin 512) (e : Fin 2) : EReal := (V c main_v24 : S512x2.Idx → Elt Ideal .bf16) (ix2 r e)
/-- The first layers. -/
def wAt (c : Dev nD) (e : Fin 2) (j : Fin 512) (k : Fin 1024) : EReal := (V c main_arg2 : S2x512x1024.Idx → Elt Ideal .f32) (ix3 e j k)
/-- The second layers. -/
def uAt (c : Dev nD) (e : Fin 2) (k : Fin 1024) (l : Fin 512) : EReal := (V c main_arg3 : S2x1024x512.Idx → Elt Ideal .f32) (ix3 e k l)

/-- Both experts of device `d` on row `r` of device `c`, behind the mask `m`. -/
def duo (c d : Dev nD) (m : Fin 2 → EReal) (r l : Fin 512) : EReal :=
  pair (xAt V c r) m (wAt V d 0) (fun k => uAt V d 0 k l) (wAt V d 1) (fun k => uAt V d 1 k l)

theorem wa0_at (c : Dev nD) (j : Fin 512) (k : Fin 1024) : wa0 V c (ix3 0 j k) = wAt V c 0 j k := by
  refine congrArg (V c main_arg2 : S2x512x1024.Idx → Elt Ideal .f32) (funext fun a => Fin.ext ?_)
  match a with
  | 0 => rfl
  | 1 => show 0 + 1 * j.val = j.val; omega
  | 2 => show 0 + 1 * k.val = k.val; omega
theorem wa1_at (c : Dev nD) (j : Fin 512) (k : Fin 1024) : wa1 V c (ix3 0 j k) = wAt V c 1 j k := by
  refine congrArg (V c main_arg2 : S2x512x1024.Idx → Elt Ideal .f32) (funext fun a => Fin.ext ?_)
  match a with
  | 0 => rfl
  | 1 => show 0 + 1 * j.val = j.val; omega
  | 2 => show 0 + 1 * k.val = k.val; omega
theorem wb0_at (c : Dev nD) (k : Fin 1024) (l : Fin 512) : wb0 V c (ix3 0 k l) = uAt V c 0 k l := by
  refine congrArg (V c main_arg3 : S2x1024x512.Idx → Elt Ideal .f32) (funext fun a => Fin.ext ?_)
  match a with
  | 0 => rfl
  | 1 => show 0 + 1 * k.val = k.val; omega
  | 2 => show 0 + 1 * l.val = l.val; omega
theorem wb1_at (c : Dev nD) (k : Fin 1024) (l : Fin 512) : wb1 V c (ix3 0 k l) = uAt V c 1 k l := by
  refine congrArg (V c main_arg3 : S2x1024x512.Idx → Elt Ideal .f32) (funext fun a => Fin.ext ?_)
  match a with
  | 0 => rfl
  | 1 => show 0 + 1 * k.val = k.val; omega
  | 2 => show 0 + 1 * l.val = l.val; omega

/-- The first row of band `k`. -/
abbrev base (k : Fin 4) (r : Fin 128) : Fin 512 := ⟨128 * k.val + r.val, by have := k.isLt; have := r.isLt; omega⟩

theorem xv_at (c : Dev nD) (r j : Fin 512) : xv V c (ix2 r j) = xAt V c r j := by
  refine congrArg (V c main_arg0 : S512x512.Idx → Elt Ideal .f32) (funext fun a => Fin.ext ?_)
  match a with
  | 0 => show 0 + 1 * r.val = r.val; omega
  | 1 => show 0 + 1 * j.val = j.val; omega

theorem xb_at (c : Dev nD) (r j : Fin 512) : xb V c (ix2 r j) = xAt V c r j := by
  unfold xb
  rw [← xv_at]
  pointwise [k0_pay1]

theorem xw_at (c : Dev nD) (k : Fin 4) (r : Fin 128) (j : Fin 512) : xw V c k (ix2 r j) = xAt V (pr c) (base k r) j := by
  rw [← xb_at]
  match k with
  | 0 => exact congrArg (xb V (pr c)) ((band_emb 0 _ r j).trans (congrArg (fun r => ix2 r j) (Fin.ext (by show 0 + r.val = 128 * 0 + r.val; omega))))
  | 1 => exact congrArg (xb V (pr c)) (band_emb 128 _ r j)
  | 2 => exact congrArg (xb V (pr c)) (band_emb 256 _ r j)
  | 3 => exact congrArg (xb V (pr c)) (band_emb 384 _ r j)

theorem mask_emb (off : ℕ) (inb : ∀ a, (![off, 0] : Fin 2 → ℕ) a + S128x2.size a ≤ S512x2.size a) (k : Fin 4) (h : off = 128 * k.val)
    (r : Fin 128) (e : Fin 2) : (Rect.unit (s := S512x2) ![off, 0] S128x2.size inb).emb (ix2 r e) = ix2 (base k r) e := by
  funext a
  refine Fin.ext ?_
  match a with
  | 0 => show off + 1 * r.val = 128 * k.val + r.val; omega
  | 1 => show 0 + 1 * e.val = e.val; omega

theorem mw_at (c : Dev nD) (k : Fin 4) (r : Fin 128) (e : Fin 2) : mw V c k (ix2 r e) = sendAt V (pr c) (base k r) e := by
  match k with
  | 0 => exact congrArg (V (pr c) main_v24 : S512x2.Idx → Elt Ideal .bf16) (mask_emb 0 _ 0 rfl r e)
  | 1 => exact congrArg (V (pr c) main_v24 : S512x2.Idx → Elt Ideal .bf16) (mask_emb 128 _ 1 rfl r e)
  | 2 => exact congrArg (V (pr c) main_v24 : S512x2.Idx → Elt Ideal .bf16) (mask_emb 256 _ 2 rfl r e)
  | 3 => exact congrArg (V (pr c) main_v24 : S512x2.Idx → Elt Ideal .bf16) (mask_emb 384 _ 3 rfl r e)

/-- A band of the partial result: this device's experts on the partner's rows, behind the mask the partner sent. -/
theorem ps_rows (c : Dev nD) (k : Fin 4) (r : Fin 128) (l : Fin 512) :
    ps V c k (ix2 r l) = duo V (pr c) c (sendAt V (pr c) (base k r)) (base k r) l := by
  rw [ps_at]
  unfold duo
  simp only [xw_at, mw_at, wa0_at, wa1_at, wb0_at, wb1_at]

/-- The block before anything is added: this device's experts on its own rows, behind its own mask. -/
theorem o0_rows (c : Dev nD) (r l : Fin 512) : o0 V c (ix2 r l) = duo V c c (keepAt V c r) r l := by
  have e : o0 V c = k0_pay19 (xv V c)
      (msM.view.readAt (Elt Ideal) (Rect.unit (s := S512x2) ![0, 0] S512x2.size inb_S512x2_S512x2_0_0).toLoadRect (V c main_v14))
      (wa0 V c) (wb0 V c) (wa1 V c) (wb1 V c) :=
    Memref.write_access_unit_zero_univ (Elt Ideal) cc0_stg2_0 (funext fun a => by match a with | 0 => rfl | 1 => rfl) _ _ _
  have hm (e : Fin 2) : msM.view.readAt (Elt Ideal) (Rect.unit (s := S512x2) ![0, 0] S512x2.size inb_S512x2_S512x2_0_0).toLoadRect (V c main_v14) (ix2 r e)
      = keepAt V c r e := by
    refine congrArg (V c main_v14 : S512x2.Idx → Elt Ideal .f32) (funext fun a => Fin.ext ?_)
    match a with
    | 0 => show 0 + 1 * r.val = r.val; omega
    | 1 => show 0 + 1 * e.val = e.val; omega
  rw [e, pay19_at]
  unfold duo
  simp only [xv_at, hm, wa0_at, wa1_at, wb0_at, wb1_at]

/-- What the receive buffer shows of a band is the band the partner computed. -/
theorem prf_band0 (c : Dev nD) : prcM.view.readAt (Elt Ideal)
    (Rect.unit (s := S512x512) ![0, 0] S128x512.size inb_S512x512_S128x512_0_0).toLoadRect (prf V c 0) = ps V (pr c) 0 :=
  View.read_write_univ ..
theorem prf_band1 (c : Dev nD) : prcM.view.readAt (Elt Ideal)
    (Rect.unit (s := S512x512) ![128, 0] S128x512.size inb_S512x512_S128x512_128_0).toLoadRect (prf V c 1) = ps V (pr c) 1 :=
  View.read_write_univ ..
theorem prf_band2 (c : Dev nD) : prcM.view.readAt (Elt Ideal)
    (Rect.unit (s := S512x512) ![256, 0] S128x512.size inb_S512x512_S128x512_256_0).toLoadRect (prf V c 2) = ps V (pr c) 2 :=
  View.read_write_univ ..
theorem prf_band3 (c : Dev nD) : prcM.view.readAt (Elt Ideal)
    (Rect.unit (s := S512x512) ![384, 0] S128x512.size inb_S512x512_S128x512_384_0).toLoadRect (prf V c 3) = ps V (pr c) 3 :=
  View.read_write_univ ..

/-! ## The finished block -/

theorem add_at (a : Vec Ideal S128x512 .f32) (b : Vec Ideal S128x512 .bf16) (i : S128x512.Idx) :
    k0_pay20 a b i = a i + b i ∧ k0_pay22 (k0_pay21 a) b i = a i + b i ∧ k0_pay23 a b i = a i + b i ∧ k0_pay24 a b i = a i + b i := by
  refine ⟨?_, ?_, ?_, ?_⟩ <;> pointwise [k0_pay20, k0_pay21, k0_pay22, k0_pay23, k0_pay24]

/-- The partner's band added to the rows of its band: at a row of the band the sum, elsewhere nothing new. -/
theorem step_at (k : Fin 4) (c : Dev nD) (f : S512x512.Idx → Elt Ideal .f32) (w : S128x512.Idx → Elt Ideal .f32)
    (hk : ∀ a, (![128 * k.val, 0] : Fin 2 → ℕ) a + S128x512.size a ≤ S512x512.size a)
    (hw : ∀ i, w i = outM.view.readAt (Elt Ideal) (Rect.unit (s := S512x512) ![128 * k.val, 0] S128x512.size hk).toLoadRect f i + ps V (pr c) k i)
    (r l : Fin 512) :
    (outM.access (Rect.unit (s := S512x512) ![128 * k.val, 0] S128x512.size hk)).write (Elt Ideal) f w Finset.univ (ix2 r l)
      = if 128 * k.val ≤ r.val ∧ r.val < 128 * k.val + 128 then f (ix2 r l) + duo V c (pr c) (sendAt V c r) r l else f (ix2 r l) := by
  rw [put_out]
  split
  · next h =>
    have e : base k ⟨r.val - 128 * k.val, by omega⟩ = r := Fin.ext (by show 128 * k.val + (r.val - 128 * k.val) = r.val; omega)
    rw [hw, band_out, ps_rows, pr_pr, e, show (⟨128 * k.val + (⟨r.val - 128 * k.val, by omega⟩ : Fin 128).val, _⟩ : Fin 512) = r from e]
  · rfl

theorem o1_rows (c : Dev nD) (r l : Fin 512) : o1 V c (ix2 r l)
    = if 0 ≤ r.val ∧ r.val < 128 then o0 V c (ix2 r l) + duo V c (pr c) (sendAt V c r) r l else o0 V c (ix2 r l) :=
  step_at V 0 c (o0 V c) _ inb_S512x512_S128x512_0_0 (fun i => ((add_at _ _ i).1).trans (congrArg (_ + ·) (congrFun (prf_band0 V c) i))) r l
theorem o2_rows (c : Dev nD) (r l : Fin 512) : o2 V c (ix2 r l)
    = if 128 ≤ r.val ∧ r.val < 256 then o1 V c (ix2 r l) + duo V c (pr c) (sendAt V c r) r l else o1 V c (ix2 r l) :=
  step_at V 1 c (o1 V c) _ inb_S512x512_S128x512_128_0 (fun i => ((add_at _ _ i).2.1).trans (congrArg (_ + ·) (congrFun (prf_band1 V c) i))) r l
theorem o3_rows (c : Dev nD) (r l : Fin 512) : o3 V c (ix2 r l)
    = if 256 ≤ r.val ∧ r.val < 384 then o2 V c (ix2 r l) + duo V c (pr c) (sendAt V c r) r l else o2 V c (ix2 r l) :=
  step_at V 2 c (o2 V c) _ inb_S512x512_S128x512_256_0 (fun i => ((add_at _ _ i).2.2.1).trans (congrArg (_ + ·) (congrFun (prf_band2 V c) i))) r l
theorem o4_last (c : Dev nD) (r l : Fin 512) : o4 V c (ix2 r l)
    = if 384 ≤ r.val ∧ r.val < 512 then o3 V c (ix2 r l) + duo V c (pr c) (sendAt V c r) r l else o3 V c (ix2 r l) :=
  step_at V 3 c (o3 V c) _ inb_S512x512_S128x512_384_0 (fun i => ((add_at _ _ i).2.2.2).trans (congrArg (_ + ·) (congrFun (prf_band3 V c) i))) r l

/-- The finished block at row `r`: the device's experts behind its own mask, plus its partner's experts behind the mask it sent. -/
theorem o4_rows (c : Dev nD) (r l : Fin 512) :
    o4 V c (ix2 r l) = duo V c c (keepAt V c r) r l + duo V c (pr c) (sendAt V c r) r l := by
  have hr := r.isLt
  rw [o4_last, o3_rows, o2_rows, o1_rows, o0_rows]
  by_cases h1 : r.val < 128
  · rw [if_neg (by omega), if_neg (by omega), if_neg (by omega), if_pos ⟨Nat.zero_le _, h1⟩]
  by_cases h2 : r.val < 256
  · rw [if_neg (by omega), if_neg (by omega), if_pos (by omega), if_neg (by omega)]
  by_cases h3 : r.val < 384
  · rw [if_neg (by omega), if_pos (by omega), if_neg (by omega), if_neg (by omega)]
  · rw [if_pos (by omega), if_neg (by omega), if_neg (by omega), if_neg (by omega)]

end Cert.KernelIdeal.Talk

end
-- ==== Proof.Value.Mask.lean ====
/-
  The two masks a device computes from its rows' assignments, read element by element.
-/
module

public import proofs.«01_k».proof.Proof.Value.Rows
public import Idealize.ShloMosaic.Lib.StableHlo.Run
public import Idealize.ShloMosaic.Lib.WordCmp

@[expose] public section

noncomputable section

namespace Cert.KernelIdeal.Talk

open Idealize.ShloMosaic
open Idealize.ShloMosaic.TcCoe
open Idealize.ShloMosaic.StableHlo
open Cert.KernelIdeal Cert.KernelIdeal.Gen

set_option maxRecDepth 16384

/-- The half of the experts a device holds: its place on the mesh's first axis, as the program computes it. -/
def side (c : Dev nD) : BitVec 32 := ((Dev.word c : BitVec 32) / 8#32) % 2#32

/-- The device's place on the first axis. -/
def sideV (c : Dev nD) : IVec S_ 32 := id (Host.remui (Host.divui (constantI S_ 32 (Dev.word c)) (constantI S_ 32 8#32)) (constantI S_ 32 2#32))

theorem sideV_at (c : Dev nD) (i : S_.Idx) : sideV c i = side c := by
  have h : ∀ c : Dev nD, IntOp.remui .host (IntOp.divui .host (Dev.word c) 8#32) 2#32 = side c := by decide
  exact h c

/-- The mask of a device's own experts. -/
def keepV (a : IVec S512 32) (c : Dev nD) : FVec Ideal S512x2 .f32 :=
  uitofp .f32 (cmpi .eq (broadcastInDim S512x2 ![0, 1] bcast_S512x1_S512x2_0_1 (broadcastInDim S512x1 ![0] bcast_S512_S512x1_0 a))
    (broadcastInDim S512x2 ![0, 1] bcast_S1x2_S512x2_0_1 (broadcastInDim S1x2 ![1] bcast_S2_S1x2_1
      (addi (broadcastInDim S2 ![] bcast_S_S2 (muli (constantI S_ 32 2#32) (sideV c))) (iotaInDim S2 32 0)))))
/-- The mask of its partner's experts. -/
def sendV (a : IVec S512 32) (c : Dev nD) : FVec Ideal S512x2 .bf16 :=
  uitofp .bf16 (cmpi .eq (broadcastInDim S512x2 ![0, 1] bcast_S512x1_S512x2_0_1 (broadcastInDim S512x1 ![0] bcast_S512_S512x1_0 a))
    (broadcastInDim S512x2 ![0, 1] bcast_S1x2_S512x2_0_1 (broadcastInDim S1x2 ![1] bcast_S2_S1x2_1
      (addi (broadcastInDim S2 ![] bcast_S_S2 (muli (constantI S_ 32 2#32) (subi (constantI S_ 32 1#32) (sideV c)))) (iotaInDim S2 32 0)))))

/-- A comparison read as a number: one where it holds, zero where it does not. -/
theorem bit_at (φ : FTy) (x y : BitVec 32) : (FloatOps.uitofp (F := Ideal) φ (IntOp.cmpi .eq x y) : EReal) = if x = y then 1 else 0 := by
  by_cases h : x = y
  · subst h
    rw [if_pos rfl, IntOp.cmpi_eq_self]
    show (((1#1 : BitVec 1).toNat : ℝ) : EReal) = 1
    simp
  · rw [if_neg h]
    have h0 : IntOp.cmpi .eq x y = 0#1 := by rw [WordCmp.cmpi_eq_eq]; simp [h]
    rw [h0]
    show (((0#1 : BitVec 1).toNat : ℝ) : EReal) = 0
    simp

theorem keepV_at (a : IVec S512 32) (c : Dev nD) (r : Fin 512) (e : Fin 2) :
    keepV a c (ix2 r e) = if a (ix1 r) = 2#32 * side c + BitVec.ofNat 32 e.val then 1 else 0 := by
  have h : keepV a c (ix2 r e) = FloatOps.uitofp (F := Ideal) _ (IntOp.cmpi .eq (a (ix1 r)) (2#32 * side c + BitVec.ofNat 32 e.val)) := by
    pointwise [keepV, sideV_at]
    rfl
  rw [h, bit_at]

theorem sendV_at (a : IVec S512 32) (c : Dev nD) (r : Fin 512) (e : Fin 2) :
    sendV a c (ix2 r e) = if a (ix1 r) = 2#32 * (1#32 - side c) + BitVec.ofNat 32 e.val then 1 else 0 := by
  have h : sendV a c (ix2 r e) = FloatOps.uitofp (F := Ideal) _ (IntOp.cmpi .eq (a (ix1 r)) (2#32 * (1#32 - side c) + BitVec.ofNat 32 e.val)) := by
    pointwise [sendV, sideV_at]
    rfl
  rw [h, bit_at]

variable (V : Valuation τ sig (Elt Ideal))

theorem after_keep (c : Dev nD) : StableHlo.after (hostOps0 c) V main_v14 = keepV (V main_arg1) c := by
  after_results_simp <;> rfl
theorem after_send (c : Dev nD) : StableHlo.after (hostOps0 c) V main_v24 = sendV (V main_arg1) c := by
  after_results_simp <;> rfl

end Cert.KernelIdeal.Talk

end
-- ==== Proof.Value.Ref.lean ====
/-
  The reference's result read element by element: the expert its row is assigned to, on that row.
-/
module

public import proofs.«01_k».proof.Proof.Value.Ffn
public import proofs.«01_k».proof.Proof.Gen.ReferenceIdeal.Run
public import Idealize.ShloMosaic.Lib.WordCmp

@[expose] public section

noncomputable section

namespace Cert.ReferenceIdeal.Value

open Idealize.ShloMosaic
open Idealize.ShloMosaic.TcCoe
open Idealize.ShloMosaic.StableHlo
open Cert.ReferenceIdeal Cert.ReferenceIdeal.Gen
open Cert.KernelIdeal.Talk (expert)

set_option maxRecDepth 16384

variable (x : FVec Ideal S1024x512 .f32) (a : IVec S1024 32) (W : FVec Ideal S4x512x1024 .f32) (U : FVec Ideal S4x1024x512 .f32)

/-- Expert 0 on every row. -/
def layer0 : FVec Ideal S1024x512 .f32 :=
  (Host.dotGeneral dot_S1024x1024_S1024x512_S1024x512_1_0_0_1_n_n none (maximumf (Host.dotGeneral dot_S1024x512_S512x1024_S1024x1024_1_0_0_1_n_n none x (shapeCast _ (extractStridedSlice S1x512x1024 ![0, 0, 0] W slices_S4x512x1024_S1x512x1024_0_0_0) shapeCasts_S1x512x1024_S512x1024)) (broadcastInDim S1024x1024 ![] bcast_S_S1024x1024 (constant S_ .f32 0x00000000#32))) (shapeCast _ (extractStridedSlice S1x1024x512 ![0, 0, 0] U slices_S4x1024x512_S1x1024x512_0_0_0) shapeCasts_S1x1024x512_S1024x512))
theorem layer0_at (r : Fin 1024) (l : Fin 512) :
    layer0 x W U (ix2 r l) = expert (fun j => x (ix2 r j)) (fun j k => W (ix3 0 j k)) (fun k => U (ix3 0 k l)) := by
  pointwise [layer0, expert]
/-- Expert 1 on every row. -/
def layer1 : FVec Ideal S1024x512 .f32 :=
  (Host.dotGeneral dot_S1024x1024_S1024x512_S1024x512_1_0_0_1_n_n none (maximumf (Host.dotGeneral dot_S1024x512_S512x1024_S1024x1024_1_0_0_1_n_n none x (shapeCast _ (extractStridedSlice S1x512x1024 ![1, 0, 0] W slices_S4x512x1024_S1x512x1024_1_0_0) shapeCasts_S1x512x1024_S512x1024)) (broadcastInDim S1024x1024 ![] bcast_S_S1024x1024 (constant S_ .f32 0x00000000#32))) (shapeCast _ (extractStridedSlice S1x1024x512 ![1, 0, 0] U slices_S4x1024x512_S1x1024x512_1_0_0) shapeCasts_S1x1024x512_S1024x512))
theorem layer1_at (r : Fin 1024) (l : Fin 512) :
    layer1 x W U (ix2 r l) = expert (fun j => x (ix2 r j)) (fun j k => W (ix3 1 j k)) (fun k => U (ix3 1 k l)) := by
  pointwise [layer1, expert]
/-- Expert 2 on every row. -/
def layer2 : FVec Ideal S1024x512 .f32 :=
  (Host.dotGeneral dot_S1024x1024_S1024x512_S1024x512_1_0_0_1_n_n none (maximumf (Host.dotGeneral dot_S1024x512_S512x1024_S1024x1024_1_0_0_1_n_n none x (shapeCast _ (extractStridedSlice S1x512x1024 ![2, 0, 0] W slices_S4x512x1024_S1x512x1024_2_0_0) shapeCasts_S1x512x1024_S512x1024)) (broadcastInDim S1024x1024 ![] bcast_S_S1024x1024 (constant S_ .f32 0x00000000#32))) (shapeCast _ (extractStridedSlice S1x1024x512 ![2, 0, 0] U slices_S4x1024x512_S1x1024x512_2_0_0) shapeCasts_S1x1024x512_S1024x512))
theorem layer2_at (r : Fin 1024) (l : Fin 512) :
    layer2 x W U (ix2 r l) = expert (fun j => x (ix2 r j)) (fun j k => W (ix3 2 j k)) (fun k => U (ix3 2 k l)) := by
  pointwise [layer2, expert]
/-- Expert 3 on every row. -/
def layer3 : FVec Ideal S1024x512 .f32 :=
  (Host.dotGeneral dot_S1024x1024_S1024x512_S1024x512_1_0_0_1_n_n none (maximumf (Host.dotGeneral dot_S1024x512_S512x1024_S1024x1024_1_0_0_1_n_n none x (shapeCast _ (extractStridedSlice S1x512x1024 ![3, 0, 0] W slices_S4x512x1024_S1x512x1024_3_0_0) shapeCasts_S1x512x1024_S512x1024)) (broadcastInDim S1024x1024 ![] bcast_S_S1024x1024 (constant S_ .f32 0x00000000#32))) (shapeCast _ (extractStridedSlice S1x1024x512 ![3, 0, 0] U slices_S4x1024x512_S1x1024x512_3_0_0) shapeCasts_S1x1024x512_S1024x512))
theorem layer3_at (r : Fin 1024) (l : Fin 512) :
    layer3 x W U (ix2 r l) = expert (fun j => x (ix2 r j)) (fun j k => W (ix3 3 j k)) (fun k => U (ix3 3 k l)) := by
  pointwise [layer3, expert]

/-- The rows assigned to expert `e` taken from `y`, the others from `z`. -/
def choose (e : BitVec 32) (y z : FVec Ideal S1024x512 .f32) : FVec Ideal S1024x512 .f32 :=
  select (broadcastInDim S1024x512 ![0, 1] bcast_S1024x1_S1024x512_0_1 (broadcastInDim S1024x1 ![0] bcast_S1024_S1024x1_0 (cmpi .eq a (broadcastInDim S1024 ![] bcast_S_S1024 (constantI S_ 32 e))))) y z

theorem choose_at (e : BitVec 32) (y z : FVec Ideal S1024x512 .f32) (r : Fin 1024) (l : Fin 512) :
    choose a e y z (ix2 r l) = if a (ix1 r) = e then y (ix2 r l) else z (ix2 r l) := by
  have h : choose a e y z (ix2 r l) = Scalar.select (IntOp.cmpi .eq (a (ix1 r)) e) (y (ix2 r l)) (z (ix2 r l)) := by
    pointwise [choose]
  rw [h, WordCmp.cmpi_eq_eq]
  by_cases h : a (ix1 r) = e <;> simp [Scalar.select, h]

/-- The reference's result. -/
def result : FVec Ideal S1024x512 .f32 :=
  choose a 3#32 (layer3 x W U) (choose a 2#32 (layer2 x W U) (choose a 1#32 (layer1 x W U) (choose a 0#32 (layer0 x W U)
    (broadcastInDim S1024x512 ![] bcast_S_S1024x512 (constant S_ .f32 0x00000000#32)))))

/-- At every row the expert the row is assigned to; a row assigned to none is zero. -/
theorem result_at (r : Fin 1024) (l : Fin 512) :
    result x a W U (ix2 r l) =
      if a (ix1 r) = 3#32 then expert (fun j => x (ix2 r j)) (fun j k => W (ix3 3 j k)) (fun k => U (ix3 3 k l))
      else if a (ix1 r) = 2#32 then expert (fun j => x (ix2 r j)) (fun j k => W (ix3 2 j k)) (fun k => U (ix3 2 k l))
      else if a (ix1 r) = 1#32 then expert (fun j => x (ix2 r j)) (fun j k => W (ix3 1 j k)) (fun k => U (ix3 1 k l))
      else if a (ix1 r) = 0#32 then expert (fun j => x (ix2 r j)) (fun j k => W (ix3 0 j k)) (fun k => U (ix3 0 k l))
      else 0 := by
  have hz : (broadcastInDim S1024x512 ![] bcast_S_S1024x512 (constant S_ .f32 0x00000000#32) : FVec Ideal S1024x512 .f32) (ix2 r l) = 0 := by
    pointwise []
  unfold result
  rw [choose_at, choose_at, choose_at, choose_at, layer3_at, layer2_at, layer1_at, layer0_at, hz]

/-- The reference runs to that result and leaves its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.ReferenceIdeal.Value

end
-- ==== Proof.Value.Agree.lean ====
/-
  The kernel's finished blocks are the blocks of the reference's result.
-/
module

public import proofs.«01_k».proof.Proof.Value.Mask
public import proofs.«01_k».proof.Proof.Value.Ref
public import proofs.«01_k».proof.Proof.Gen.KernelIdeal.Regions
public import Idealize.ShloMosaic.Lib.Layout

@[expose] public section

noncomputable section

namespace Cert.KernelIdeal.Talk

open Idealize.ShloMosaic
open Idealize.ShloMosaic.TcCoe
open Cert.KernelIdeal Cert.KernelIdeal.Gen

set_option maxRecDepth 16384

/-! ## Where a device's blocks lie in the whole arrays -/

/-- A device's place on the mesh's first axis. -/
abbrev place (c : Dev nD) : ℕ := c.val / 8

theorem place_lt (c : Dev nD) : place c < 2 := by have h : c.val < 16 := c.isLt; show c.val / 8 < 2; omega

theorem place_pr (c : Dev nD) : place (pr c) = 1 - place c := by
  revert c; decide

theorem side_place (c : Dev nD) : side c = BitVec.ofNat 32 (place c) := by
  revert c; decide

/-- Row `r` of device `c`, in the whole array. -/
abbrev row (c : Dev nD) (r : Fin 512) : Fin 1024 := ⟨512 * place c + r.val, by have := place_lt c; have := r.isLt; omega⟩
/-- Expert `e` of device `c`, of all four. -/
abbrev ex (c : Dev nD) (e : Fin 2) : Fin 4 := ⟨2 * place c + e.val, by have := place_lt c; have := e.isLt; omega⟩

theorem lin (c : Dev nD) : Layout.meshLin [2, 2, 4] c.val [0] = place c := by
  revert c; decide

theorem block_rows {α : Type} (c : Dev nD) (v : (⟨2, ![1024, 512]⟩ : Shape).Idx → α) (r : Fin 512) (j : Fin 512) :
    Layout.blockN ⟨2, ![512, 512]⟩ ⟨2, ![1024, 512]⟩ (Layout.meshBlock [2, 2, 4] ![[0], []] c) v (by decide) (ix2 r j) = v (ix2 (row c r) j) := by
  refine congrArg v (funext fun b => Fin.ext ?_)
  have h := lin c
  match b with
  | 0 => show Layout.meshLin [2, 2, 4] c.val [0] * 512 + r.val = 512 * place c + r.val; omega
  | 1 => show 0 * 512 + j.val = j.val; omega

theorem block_row {α : Type} (c : Dev nD) (v : (⟨1, ![1024]⟩ : Shape).Idx → α) (r : Fin 512) :
    Layout.blockN ⟨1, ![512]⟩ ⟨1, ![1024]⟩ (Layout.meshBlock [2, 2, 4] ![[0]] c) v (by decide) (ix1 r) = v (ix1 (row c r)) := by
  refine congrArg v (funext fun b => Fin.ext ?_)
  have h := lin c
  match b with
  | 0 => show Layout.meshLin [2, 2, 4] c.val [0] * 512 + r.val = 512 * place c + r.val; omega

theorem block_first {α : Type} (c : Dev nD) (v : (⟨3, ![4, 512, 1024]⟩ : Shape).Idx → α) (e : Fin 2) (j : Fin 512) (k : Fin 1024) :
    Layout.blockN ⟨3, ![2, 512, 1024]⟩ ⟨3, ![4, 512, 1024]⟩ (Layout.meshBlock [2, 2, 4] ![[0], [], []] c) v (by decide) (ix3 e j k) = v (ix3 (ex c e) j k) := by
  refine congrArg v (funext fun b => Fin.ext ?_)
  have h := lin c
  match b with
  | 0 => show Layout.meshLin [2, 2, 4] c.val [0] * 2 + e.val = 2 * place c + e.val; omega
  | 1 => show 0 * 512 + j.val = j.val; omega
  | 2 => show 0 * 1024 + k.val = k.val; omega

theorem block_second {α : Type} (c : Dev nD) (v : (⟨3, ![4, 1024, 512]⟩ : Shape).Idx → α) (e : Fin 2) (k : Fin 1024) (l : Fin 512) :
    Layout.blockN ⟨3, ![2, 1024, 512]⟩ ⟨3, ![4, 1024, 512]⟩ (Layout.meshBlock [2, 2, 4] ![[0], [], []] c) v (by decide) (ix3 e k l) = v (ix3 (ex c e) k l) := by
  refine congrArg v (funext fun b => Fin.ext ?_)
  have h := lin c
  match b with
  | 0 => show Layout.meshLin [2, 2, 4] c.val [0] * 2 + e.val = 2 * place c + e.val; omega
  | 1 => show 0 * 1024 + k.val = k.val; omega
  | 2 => show 0 * 512 + l.val = l.val; omega

/-! ## The sum over the experts -/

/-- An expert behind a mask: the expert where the mask is set, nothing elsewhere. -/
theorem expert_gate (p : Prop) [Decidable p] (x : Fin 512 → EReal) (W : Fin 512 → Fin 1024 → EReal) (U : Fin 1024 → EReal) :
    expert (fun j => x j * (if p then 1 else 0)) W U = if p then expert x W U else 0 := by
  by_cases h : p
  · simp only [if_pos h, expert_on]
  · simp only [if_neg h, expert_off]

/-- Of four numbers each behind its own word, the one whose word is met. -/
theorem pick (a : BitVec 32) (e : Fin 4 → EReal) :
    ((if a = 0#32 then e 0 else 0) + (if a = 1#32 then e 1 else 0)) + ((if a = 2#32 then e 2 else 0) + (if a = 3#32 then e 3 else 0))
      = if a = 3#32 then e 3 else if a = 2#32 then e 2 else if a = 1#32 then e 1 else if a = 0#32 then e 0 else 0 := by
  by_cases h3 : a = 3#32
  · subst h3; simp
  by_cases h2 : a = 2#32
  · subst h2; simp
  by_cases h1 : a = 1#32
  · subst h1; simp
  by_cases h0 : a = 0#32
  · subst h0; simp
  · simp [h0, h1, h2, h3]

/-! ## The blocks agree -/

section
variable (V : Dev nD → Valuation τ sig (Elt Ideal))
variable (x : FVec Ideal Cert.ReferenceIdeal.S1024x512 .f32) (a : IVec Cert.ReferenceIdeal.S1024 32)
  (W : FVec Ideal Cert.ReferenceIdeal.S4x512x1024 .f32) (U : FVec Ideal Cert.ReferenceIdeal.S4x1024x512 .f32)

/-- Device `c`'s row `r`, sent through expert `e` of all four. -/
def one (c : Dev nD) (r l : Fin 512) (e : Fin 4) : EReal :=
  expert (fun j => x (ix2 (row c r) j)) (fun j k => W (ix3 e j k)) (fun k => U (ix3 e k l))

/-- The experts of device `d` on a row of device `c` behind a mask that is set where the row's word is one of two. -/
theorem duo_gate (hx : ∀ c r j, xAt V c r j = x (ix2 (row c r) j)) (hW : ∀ c e j k, wAt V c e j k = W (ix3 (ex c e) j k))
    (hU : ∀ c e k l, uAt V c e k l = U (ix3 (ex c e) k l)) (c d : Dev nD) (m : Fin 2 → EReal) (p : Fin 2 → BitVec 32) (r l : Fin 512)
    (hm : ∀ e, m e = if a (ix1 (row c r)) = p e then 1 else 0) :
    duo V c d m r l = (if a (ix1 (row c r)) = p 0 then one x W U c r l (ex d 0) else 0) + (if a (ix1 (row c r)) = p 1 then one x W U c r l (ex d 1) else 0) := by
  unfold duo pair one
  have e0 : xAt V c r = fun j => x (ix2 (row c r) j) := funext fun j => hx c r j
  have eW (e : Fin 2) : wAt V d e = fun j k => W (ix3 (ex d e) j k) := funext fun j => funext fun k => hW d e j k
  have eU (e : Fin 2) : (fun k => uAt V d e k l) = fun k => U (ix3 (ex d e) k l) := funext fun k => hU d e k l
  rw [hm 0, hm 1, expert_gate, expert_gate, e0, eW 0, eW 1, eU 0, eU 1]

/-- The finished block of device `c` at a row is the reference's result at that row of the whole. -/
theorem agree (hx : ∀ c r j, xAt V c r j = x (ix2 (row c r) j)) (hW : ∀ c e j k, wAt V c e j k = W (ix3 (ex c e) j k))
    (hU : ∀ c e k l, uAt V c e k l = U (ix3 (ex c e) k l))
    (hk : ∀ c r e, keepAt V c r e = if a (ix1 (row c r)) = 2#32 * side c + BitVec.ofNat 32 e.val then 1 else 0)
    (hs : ∀ c r e, sendAt V c r e = if a (ix1 (row c r)) = 2#32 * (1#32 - side c) + BitVec.ofNat 32 e.val then 1 else 0)
    (c : Dev nD) (r l : Fin 512) :
    o4 V c (ix2 r l) = Cert.ReferenceIdeal.Value.result x a W U (ix2 (row c r) l) := by
  rw [o4_rows, Cert.ReferenceIdeal.Value.result_at,
    duo_gate V x a W U hx hW hU c c _ (fun e => 2#32 * side c + BitVec.ofNat 32 e.val) r l (fun e => hk c r e),
    duo_gate V x a W U hx hW hU c (pr c) _ (fun e => 2#32 * (1#32 - side c) + BitVec.ofNat 32 e.val) r l (fun e => hs c r e)]
  refine Eq.trans ?_ (pick (a (ix1 (row c r))) (one x W U c r l))
  have hp := place_pr c
  have hd := side_place c
  rcases (by have := place_lt c; omega : place c = 0 ∨ place c = 1) with h | h
  · have e0 : ex c 0 = 0 := Fin.ext (by show 2 * place c + 0 = 0; omega)
    have e1 : ex c 1 = 1 := Fin.ext (by show 2 * place c + 1 = 1; omega)
    have e2 : ex (pr c) 0 = 2 := Fin.ext (by show 2 * place (pr c) + 0 = 2; omega)
    have e3 : ex (pr c) 1 = 3 := Fin.ext (by show 2 * place (pr c) + 1 = 3; omega)
    rw [e0, e1, e2, e3, hd, h]
    rfl
  · have e0 : ex c 0 = 2 := Fin.ext (by show 2 * place c + 0 = 2; omega)
    have e1 : ex c 1 = 3 := Fin.ext (by show 2 * place c + 1 = 3; omega)
    have e2 : ex (pr c) 0 = 0 := Fin.ext (by show 2 * place (pr c) + 0 = 0; omega)
    have e3 : ex (pr c) 1 = 1 := Fin.ext (by show 2 * place (pr c) + 1 = 1; omega)
    rw [e0, e1, e2, e3, hd, h]
    exact add_comm _ _

end

/-! ## At the launch -/

/-- From arguments that are the blocks of whole arrays, every device's finished block is its block of the reference's result. -/
theorem o4_block (m : (ℓ : Loc nD τ sig) → Buf (Elt Ideal) ℓ)
    (x : FVec Ideal Cert.ReferenceIdeal.S1024x512 .f32) (a : IVec Cert.ReferenceIdeal.S1024 32)
    (W : FVec Ideal Cert.ReferenceIdeal.S4x512x1024 .f32) (U : FVec Ideal Cert.ReferenceIdeal.S4x1024x512 .f32)
    (h : ∀ c : Dev nD,
      m ((c.tc : Thread nD τ).loc main_arg0) = Layout.blockN ⟨2, ![512, 512]⟩ ⟨2, ![1024, 512]⟩ (Layout.meshBlock [2, 2, 4] ![[0], []] c) x
      ∧ m ((c.tc : Thread nD τ).loc main_arg1) = Layout.blockN ⟨1, ![512]⟩ ⟨1, ![1024]⟩ (Layout.meshBlock [2, 2, 4] ![[0]] c) a
      ∧ m ((c.tc : Thread nD τ).loc main_arg2) = Layout.blockN ⟨3, ![2, 512, 1024]⟩ ⟨3, ![4, 512, 1024]⟩ (Layout.meshBlock [2, 2, 4] ![[0], [], []] c) W
      ∧ m ((c.tc : Thread nD τ).loc main_arg3) = Layout.blockN ⟨3, ![2, 1024, 512]⟩ ⟨3, ![4, 1024, 512]⟩ (Layout.meshBlock [2, 2, 4] ![[0], [], []] c) U)
    (c : Dev nD) :
    o4 (V1 m) c = Layout.blockN ⟨2, ![512, 512]⟩ ⟨2, ![1024, 512]⟩ (Layout.meshBlock [2, 2, 4] ![[0], []] c) (Cert.ReferenceIdeal.Value.result x a W U) := by
  have w0 (c : Dev nD) : V1 m c main_arg0 = m ((c.tc : Thread nD τ).loc main_arg0) := V1_of m c main_arg0 (by decide)
  have w2 (c : Dev nD) : V1 m c main_arg2 = m ((c.tc : Thread nD τ).loc main_arg2) := V1_of m c main_arg2 (by decide)
  have w3 (c : Dev nD) : V1 m c main_arg3 = m ((c.tc : Thread nD τ).loc main_arg3) := V1_of m c main_arg3 (by decide)
  have ha (c : Dev nD) (r : Fin 512) : (V0 m c main_arg1 : IVec S512 32) (ix1 r) = a (ix1 (row c r)) :=
    (congrFun (h c).2.1 (ix1 r)).trans (block_row c a r)
  funext i
  obtain ⟨r, l, rfl⟩ : ∃ r l, i = ix2 r l := ⟨i 0, i 1, eq_ix2 i⟩
  refine (agree (V1 m) x a W U ?_ ?_ ?_ ?_ ?_ c r l).trans (block_rows c _ r l).symm
  · exact fun c r j => (congrFun ((w0 c).trans (h c).1) (ix2 r j)).trans (block_rows c x r j)
  · exact fun c e j k => (congrFun ((w2 c).trans (h c).2.2.1) (ix3 e j k)).trans (block_first c W e j k)
  · exact fun c e k l => (congrFun ((w3 c).trans (h c).2.2.2) (ix3 e k l)).trans (block_second c U e k l)
  · intro c r e
    refine (congrFun (after_keep (V0 m c) c) (ix2 r e)).trans ((keepV_at _ c r e).trans ?_)
    rw [ha c r]
  · intro c r e
    refine (congrFun (after_send (V0 m c) c) (ix2 r e)).trans ((sendV_at _ c r e).trans ?_)
    rw [ha c r]

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Run
public import proofs.«01_k».proof.Proof.Kern.Run
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The kernel as printed, at machine floats: it runs, its arguments end as they began, every counter ends at zero. -/
theorem frame_kernel : Cert.quiescent_Kernel := fun m g _ =>
  (θ_run Cert.Kernel.defs _ _).mono (fun _ h => ⟨fun c => (h.1 c).2, h.2⟩) (Cert.Kernel.Talk.run_all (F := Bits) m g)

/-- The same of the kernel read at extended reals. -/
theorem frame_ideal : Cert.quiescent_KernelIdeal := fun m g _ =>
  (θ_run Cert.KernelIdeal.defs _ _).mono (fun _ h => ⟨fun c => (h.1 c).2, h.2⟩) (Cert.KernelIdeal.Talk.run_all (F := Ideal) m g)

/-- And of the reference, which has no semaphores at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel read at extended reals computes the reference's result: every device ends with its block of it. -/
theorem algebraic_ideal : Cert.algebraic_KernelIdeal_ReferenceIdeal := fun m g m' g' _ h =>
  ⟨_, (θ_run Cert.KernelIdeal.defs _ _).mono
      (fun _ k c => ⟨((k.1 c).1).trans (Cert.KernelIdeal.Talk.o4_block m _ _ _ _ h c), (k.1 c).2⟩) (Cert.KernelIdeal.Talk.run_all (F := Ideal) m g),
    (θ_run Cert.ReferenceIdeal.defs _ _).mono (fun _ k => k 0) (Cert.ReferenceIdeal.Value.run_result m' g')⟩

theorem claim : Cert.Claim := ⟨Cert.Kernel.Gen.facts, Cert.KernelIdeal.Gen.facts, Cert.ReferenceIdeal.Gen.facts,
  frame_kernel, frame_ideal, frame_reference, trivial, algebraic_ideal⟩

end Cert.Proof

end
